-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_nonzero [hPre_temperature_nonzero : Cert.Pre_temperature_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_nonzero [hPre_temperature_nonzero : Cert.Pre_temperature_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_temperature_nonzero [hKernelIdeal : Cert.KernelIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_temperature_nonzero [hReferenceIdeal : Cert.ReferenceIdeal.Facts] [hPre_temperature_nonzero : Cert.Pre_temperature_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_temperature_nonzero [hKernelIdeal : Cert.KernelIdeal.Facts] [hReferenceIdeal : Cert.ReferenceIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_temperature_nonzero : Cert.Pre_temperature_nonzero.Facts),
    quiescent_Kernel (hKernel := hKernel)
    ∧ quiescent_KernelIdeal (hKernelIdeal := hKernelIdeal)
    ∧ quiescent_KernelIdeal_pre_temperature_nonzero (hKernelIdeal := hKernelIdeal) (hPre_temperature_nonzero := hPre_temperature_nonzero)
    ∧ quiescent_ReferenceIdeal (hReferenceIdeal := hReferenceIdeal)
    ∧ quiescent_ReferenceIdeal_pre_temperature_nonzero (hReferenceIdeal := hReferenceIdeal) (hPre_temperature_nonzero := hPre_temperature_nonzero)
    ∧ preserves_Kernel_KernelIdeal
    ∧ algebraic_KernelIdeal_ReferenceIdeal_pre_temperature_nonzero (hKernelIdeal := hKernelIdeal) (hReferenceIdeal := hReferenceIdeal) (hPre_temperature_nonzero := hPre_temperature_nonzero)
-- ==== Pre_temperature_nonzero.lean ====
abbrev S4096x128 : Shape := ⟨2, ![4096, 128]⟩
abbrev S4096 : Shape := ⟨1, ![4096]⟩
abbrev S100000x128 : Shape := ⟨2, ![100000, 128]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : FVec F S4096x128 .f32) (main_arg1 : IVec S4096 32) (main_arg2 : FVec F S100000x128 .f32) (main_arg3 : FVec F S2 .f32) : IVec S_ 1 :=
  let main_v0 : FVec F S1 .f32 := (extractStridedSlice S1 ![0] · slices_S2_S1_0) main_arg3
  let main_v1 : FVec F S_ .f32 := shapeCast S_ main_v0 shapeCasts_S1_S_
  let main_cst : FVec F S_ .f32 := constant S_ .f32 0x00000000#32
  let main_v2 : IVec S_ 1 := cmpf .une main_v1 main_cst
  main_v2
-- ==== Kernel.lean ====
abbrev S4096x128 : Shape := ⟨2, ![4096, 128]⟩
abbrev S4096 : Shape := ⟨1, ![4096]⟩
abbrev S100000x128 : Shape := ⟨2, ![100000, 128]⟩
abbrev S2 : Shape := ⟨1, ![2]⟩
abbrev S100000x4096 : Shape := ⟨2, ![100000, 4096]⟩
abbrev S800x128 : Shape := ⟨2, ![800, 128]⟩
abbrev S4x800x4096 : Shape := ⟨3, ![4, 800, 4096]⟩
abbrev S4x4 : Shape := ⟨2, ![4, 4]⟩
abbrev S1 : Shape := ⟨1, ![1]⟩
abbrev S1x1 : Shape := ⟨2, ![1, 1]⟩
abbrev S_ : Shape := ⟨0, ![]⟩
abbrev S200x4096 : Shape := ⟨2, ![200, 4096]⟩
abbrev S1x200x4096 : Shape := ⟨3, ![1, 200, 4096]⟩
abbrev S400x128 : Shape := ⟨2, ![400, 128]⟩
abbrev S400x4096 : Shape := ⟨2, ![400, 4096]⟩
abbrev S1x400x4096 : Shape := ⟨3, ![1, 400, 4096]⟩
abbrev S800x4096 : Shape := ⟨2, ![800, 4096]⟩
abbrev S1x800x4096 : Shape := ⟨3, ![1, 800, 4096]⟩
abbrev S4096x100000 : Shape := ⟨2, ![4096, 100000]⟩

abbrev nBuf : Space → Nat
  | .hbm => 6
  | .vmem => 5
  | .smem => 1
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S100000x128, .f32⟩
  | .hbm, ⟨3, _⟩ => ⟨S2, .f32⟩
  | .hbm, ⟨4, _⟩ => ⟨S100000x4096, .f32⟩
  | .hbm, ⟨5, _⟩ => ⟨S4096x100000, .f32⟩
  | .local _ .vmem, ⟨0, _⟩ => ⟨S4096x128, .f32⟩
  | .local _ .vmem, ⟨1, _⟩ => ⟨S800x128, .f32⟩
  | .local _ .vmem, ⟨2, _⟩ => ⟨S800x128, .f32⟩
  | .local _ .vmem, ⟨3, _⟩ => ⟨S4x800x4096, .f32⟩
  | .local _ .vmem, ⟨4, _⟩ => ⟨S4096x128, .bf16⟩
  | .local _ .smem, ⟨0, _⟩ => ⟨S2, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c4_i32_1 : BitVec 32 := 4#32
  let v6 : BitVec 1 := Scalar.cmpi .sge arg0 c4_i32_1
  let v7 : BitVec 32 := Scalar.extui v6
  let c0_i32_2 : BitVec 32 := 0#32
  let v8 : BitVec 1 := Scalar.cmpi .ne v7 c0_i32_2
  v8

def k0_off1 (i : grid0.Coords) : Fin 2 → Nat :=
  let arg0 : BitVec 32 := BitVec.ofNat 32 (i 0).val
  let c4_i32 : BitVec 32 := 4#32
  let v0 : BitVec 32 := Scalar.remsi arg0 c4_i32
  let c0_i32_8 : BitVec 32 := 0#32
  ![v0.toNat, 0]
def k0_off2 (i : grid0.Coords) (c0_i32_7 : BitVec 32) : Fin 2 → Nat :=
  let arg0 : BitVec 32 := BitVec.ofNat 32 (i 0).val
  let c4_i32_6 : BitVec 32 := 4#32
  let v15 : BitVec 32 := Scalar.subi arg0 c4_i32_6
  let c800_i32 : BitVec 32 := 800#32
  let v16 : BitVec 32 := Scalar.muli v15 c800_i32
  let v17 : BitVec 32 := Scalar.addi v16 c0_i32_7
  let c0_i32_9 : BitVec 32 := 0#32
  ![v17.toNat, 0]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_10 : BitVec 32 := 0#32
  let c0_i32_11 : BitVec 32 := 0#32
  ![v0.toNat, 0, 0]
def k0_off4 (i : grid0.Coords) : Fin 2 → Nat :=
  let arg0 : BitVec 32 := BitVec.ofNat 32 (i 0).val
  let c4_i32 : BitVec 32 := 4#32
  let v0 : BitVec 32 := Scalar.remsi arg0 c4_i32
  let c1_i32 : BitVec 32 := 1#32
  ![v0.toNat, 1]
def k0_off5 (i : grid0.Coords) : Fin 3 → Nat :=
  let arg0 : BitVec 32 := BitVec.ofNat 32 (i 0).val
  let c4_i32 : BitVec 32 := 4#32
  let v0 : BitVec 32 := Scalar.remsi arg0 c4_i32
  let c200_i32_15 : BitVec 32 := 200#32
  let c0_i32_16 : BitVec 32 := 0#32
  ![v0.toNat, 200, 0]
def k0_off6 (i : grid0.Coords) : Fin 2 → Nat :=
  let arg0 : BitVec 32 := BitVec.ofNat 32 (i 0).val
  let c4_i32 : BitVec 32 := 4#32
  let v0 : BitVec 32 := Scalar.remsi arg0 c4_i32
  let c2_i32 : BitVec 32 := 2#32
  ![v0.toNat, 2]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c400_i32_20 : BitVec 32 := 400#32
  let c0_i32_21 : BitVec 32 := 0#32
  ![v0.toNat, 400, 0]
def k0_off8 (i : grid0.Coords) : Fin 2 → Nat :=
  let arg0 : BitVec 32 := BitVec.ofNat 32 (i 0).val
  let c4_i32 : BitVec 32 := 4#32
  let v0 : BitVec 32 := Scalar.remsi arg0 c4_i32
  let c3_i32 : BitVec 32 := 3#32
  ![v0.toNat, 3]
def k0_off9 (i : grid0.Coords) : Fin 3 → Nat :=
  let arg0 : BitVec 32 := BitVec.ofNat 32 (i 0).val
  let c4_i32 : BitVec 32 := 4#32
  let v0 : BitVec 32 := Scalar.remsi arg0 c4_i32
  let c600_i32_25 : BitVec 32 := 600#32
  let c0_i32_26 : BitVec 32 := 0#32
  ![v0.toNat, 600, 0]
def k0_cond3 (i : grid0.Coords) : BitVec 1 :=
  let arg0 : BitVec 32 := BitVec.ofNat 32 (i 0).val
  let c124_i32 : BitVec 32 := 124#32
  let v9 : BitVec 1 := Scalar.cmpi .slt arg0 c124_i32
  let v10 : BitVec 32 := Scalar.extui v9
  let c0_i32_3 : BitVec 32 := 0#32
  let v11 : BitVec 1 := Scalar.cmpi .ne v10 c0_i32_3
  v11

def k0_off10 (i : grid0.Coords) : Fin 3 → Nat :=
  let arg0 : BitVec 32 := BitVec.ofNat 32 (i 0).val
  let c4_i32 : BitVec 32 := 4#32
  let v0 : BitVec 32 := Scalar.remsi arg0 c4_i32
  let v21 : Index := Scalar.indexCast v0
  let c0_11 : Index := 0#32
  let c0_12 : Index := 0#32
  ![v21.toNat, 0, 0]
def k0_off11 (i : grid0.Coords) : Fin 2 → Nat :=
  let arg0 : BitVec 32 := BitVec.ofNat 32 (i 0).val
  let c4_i32 : BitVec 32 := 4#32
  let v0 : BitVec 32 := Scalar.remsi arg0 c4_i32
  let c0_i32_14 : BitVec 32 := 0#32
  ![v0.toNat, 0]
def k0_off12 (i : grid0.Coords) (c0_i32_13 : BitVec 32) : Fin 2 → Nat :=
  let arg0 : BitVec 32 := BitVec.ofNat 32 (i 0).val
  let c800_i32 : BitVec 32 := 800#32
  let v25 : BitVec 32 := Scalar.muli arg0 c800_i32
  let v26 : BitVec 32 := Scalar.addi v25 c0_i32_13
  let c0_i32_15 : BitVec 32 := 0#32
  ![v26.toNat, 0]
def k0_off13 (i : grid0.Coords) : Fin 3 → Nat :=
  let arg0 : BitVec 32 := BitVec.ofNat 32 (i 0).val
  let c4_i32 : BitVec 32 := 4#32
  let v0 : BitVec 32 := Scalar.remsi arg0 c4_i32
  let c0_i32_16 : BitVec 32 := 0#32
  let c0_i32_17 : BitVec 32 := 0#32
  ![v0.toNat, 0, 0]
def k0_off14 (i : grid0.Coords) : Fin 2 → Nat :=
  let arg0 : BitVec 32 := BitVec.ofNat 32 (i 0).val
  let c4_i32 : BitVec 32 := 4#32
  let v0 : BitVec 32 := Scalar.remsi arg0 c4_i32
  let c1_i32 : BitVec 32 := 1#32
  ![v0.toNat, 1]
def k0_off15 (i : grid0.Coords) : Fin 3 → Nat :=
  let arg0 : BitVec 32 := BitVec.ofNat 32 (i 0).val
  let c4_i32 : BitVec 32 := 4#32
  let v0 : BitVec 32 := Scalar.remsi arg0 c4_i32
  let c200_i32_20 : BitVec 32 := 200#32
  let c0_i32_21 : BitVec 32 := 0#32
  ![v0.toNat, 200, 0]
def k0_off16 (i : grid0.Coords) : Fin 3 → Nat :=
  let arg0 : BitVec 32 := BitVec.ofNat 32 (i 0).val
  let c4_i32 : BitVec 32 := 4#32
  let v0 : BitVec 32 := Scalar.remsi arg0 c4_i32
  let v45 : Index := Scalar.indexCast v0
  let c400_26 : Index := 400#32
  let c0_27 : Index := 0#32
  ![v45.toNat, 400, 0]
def k0_off17 (i : grid0.Coords) : Fin 2 → Nat :=
  let arg0 : BitVec 32 := BitVec.ofNat 32 (i 0).val
  let c4_i32 : BitVec 32 := 4#32
  let v0 : BitVec 32 := Scalar.remsi arg0 c4_i32
  let c2_i32 : BitVec 32 := 2#32
  ![v0.toNat, 2]
def k0_off18 (i : grid0.Coords) : Fin 3 → Nat :=
  let arg0 : BitVec 32 := BitVec.ofNat 32 (i 0).val
  let c4_i32 : BitVec 32 := 4#32
  let v0 : BitVec 32 := Scalar.remsi arg0 c4_i32
  let c400_i32_30 : BitVec 32 := 400#32
  let c0_i32_31 : BitVec 32 := 0#32
  ![v0.toNat, 400, 0]
def k0_off19 (i : grid0.Coords) : Fin 2 → Nat :=
  let arg0 : BitVec 32 := BitVec.ofNat 32 (i 0).val
  let c4_i32 : BitVec 32 := 4#32
  let v0 : BitVec 32 := Scalar.remsi arg0 c4_i32
  let c3_i32 : BitVec 32 := 3#32
  ![v0.toNat, 3]
def k0_off20 (i : grid0.Coords) : Fin 3 → Nat :=
  let arg0 : BitVec 32 := BitVec.ofNat 32 (i 0).val
  let c4_i32 : BitVec 32 := 4#32
  let v0 : BitVec 32 := Scalar.remsi arg0 c4_i32
  let c600_i32_34 : BitVec 32 := 600#32
  let c0_i32_35 : BitVec 32 := 0#32
  ![v0.toNat, 600, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x128 : Shape := ⟨2, ![4096, 128]⟩
abbrev S4096 : Shape := ⟨1, ![4096]⟩
abbrev S100000x128 : Shape := ⟨2, ![100000, 128]⟩
abbrev S2 : Shape := ⟨1, ![2]⟩
abbrev S1 : Shape := ⟨1, ![1]⟩
abbrev S_ : Shape := ⟨0, ![]⟩
abbrev S128x100000 : Shape := ⟨2, ![128, 100000]⟩
abbrev S4096x100000 : Shape := ⟨2, ![4096, 100000]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S100000x128, .f32⟩
  | .hbm, ⟨3, _⟩ => ⟨S2, .f32⟩
  | .hbm, ⟨4, _⟩ => ⟨S1, .f32⟩
  | .hbm, ⟨5, _⟩ => ⟨S_, .f32⟩
  | .hbm, ⟨6, _⟩ => ⟨S128x100000, .f32⟩
  | .hbm, ⟨7, _⟩ => ⟨S4096x100000, .f32⟩
  | .hbm, ⟨8, _⟩ => ⟨S4096x100000, .f32⟩
  | .hbm, ⟨9, _⟩ => ⟨S4096x100000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Regions.lean ====
/-
  The memory the kernel's copies work on, cut into pieces: rows of the result array, rows of one slot of the staging
  ring, and the semaphore of one slot and one band of 200 rows. A part of an array is named by the rows it holds, so
  cutting and joining are one fact each.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.Exec
public import Idealize.ShloMosaic.Lib.Tactic
public import Idealize.ShloMosaic.Lib.WordCmp
public import Idealize.ShloMosaic.Lib.ValueLayout
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Parts of the result and of the staging ring -/

/-- The result's elements in the rows from `lo` up to `hi`. -/
def resRows (lo hi : ℕ) : Finset S100000x4096.Idx :=
  Finset.univ.filter fun j => lo ≤ (j 0).val ∧ (j 0).val < hi

/-- The staging ring's elements in slot `g`, in the slot's rows from `lo` up to `hi`. -/
def slotRows (g lo hi : ℕ) : Finset S4x800x4096.Idx :=
  Finset.univ.filter fun j => (j 0).val = g ∧ lo ≤ (j 1).val ∧ (j 1).val < hi

/-- Being in rows of the result, spelt out. -/
theorem mem_resRows {lo hi : ℕ} {j : S100000x4096.Idx} : j ∈ resRows lo hi ↔ lo ≤ (j 0).val ∧ (j 0).val < hi := by
  simp [resRows]

/-- Being in rows of a slot, spelt out. -/
theorem mem_slotRows {g lo hi : ℕ} {j : S4x800x4096.Idx} :
    j ∈ slotRows g lo hi ↔ (j 0).val = g ∧ lo ≤ (j 1).val ∧ (j 1).val < hi := by
  simp [slotRows]

/-- Rows of the result held at the contents `f`. -/
abbrev resP (c : Dev nD) (lo hi : ℕ) (f : Buf (Elt F) ((c : Thread nD τ).loc main_v0)) : sProp 𝕄 :=
  ((c : Thread nD τ).loc main_v0) ↦[resRows lo hi]{fullShare} f

/-- Rows of one slot held at the contents `e`. -/
abbrev slotP (c : Dev nD) (g lo hi : ℕ) (e : Buf (Elt F) ((c : Thread nD τ).loc cc0_scratch0)) : sProp 𝕄 :=
  ((c : Thread nD τ).loc cc0_scratch0) ↦[slotRows g lo hi]{fullShare} e

/-- Rows of the result are held together exactly when they are held in two parts. -/
theorem resP_split (c : Dev nD) {lo mid hi : ℕ} (h1 : lo ≤ mid) (h2 : mid ≤ hi) (f) :
    (resP (F := F) c lo hi f) ⊣⊢ iprop(resP c lo mid f ∗ resP c mid hi f) := by
  have e : resRows lo hi = resRows lo mid ∪ resRows mid hi := by
    ext j; simp only [Finset.mem_union, mem_resRows]; omega
  unfold resP; rw [e]
  exact pointsTo_union (Finset.disjoint_left.mpr fun j hj hk => by rw [mem_resRows] at hj hk; omega)

/-- Rows of a slot are held together exactly when they are held in two parts. -/
theorem slotP_split (c : Dev nD) (g : ℕ) {lo mid hi : ℕ} (h1 : lo ≤ mid) (h2 : mid ≤ hi) (e) :
    (slotP (F := F) c g lo hi e) ⊣⊢ iprop(slotP c g lo mid e ∗ slotP c g mid hi e) := by
  have e : slotRows g lo hi = slotRows g lo mid ∪ slotRows g mid hi := by
    ext j; simp only [Finset.mem_union, mem_slotRows]; omega
  unfold slotP; rw [e]
  exact pointsTo_union (Finset.disjoint_left.mpr fun j hj hk => by rw [mem_slotRows] at hj hk; omega)

/-- No rows of the result: nothing is held. -/
theorem resP_empty (c : Dev nD) (k : ℕ) (f) : (resP (F := F) c k k f) = iprop(emp) := by
  have e : resRows k k = ∅ := by ext j; simp only [mem_resRows]; simp
  unfold resP; rw [e]; exact pointsTo_empty

/-- The whole result is its rows from 0 to 100000. -/
theorem resRows_univ : resRows 0 100000 = Finset.univ := by
  ext j; simp only [mem_resRows, Finset.mem_univ, iff_true]; exact ⟨Nat.zero_le _, (j 0).isLt⟩

/-- The whole ring held at one contents is its four slots held there. -/
theorem ring_split (c : Dev nD) (e : Buf (Elt F) ((c : Thread nD τ).loc cc0_scratch0)) :
    (((c : Thread nD τ).loc cc0_scratch0) ↦{fullShare} e : sProp 𝕄)
      ⊣⊢ iprop(slotP c 0 0 800 e ∗ slotP c 1 0 800 e ∗ slotP c 2 0 800 e ∗ slotP c 3 0 800 e) := by
  have hd : ∀ g g' : ℕ, g ≠ g' → Disjoint (slotRows g 0 800) (slotRows g' 0 800) := fun g g' h =>
    Finset.disjoint_left.mpr fun j hj hk => h ((mem_slotRows.mp hj).1.symm.trans (mem_slotRows.mp hk).1)
  have hu : (Finset.univ : Finset S4x800x4096.Idx)
      = slotRows 0 0 800 ∪ (slotRows 1 0 800 ∪ (slotRows 2 0 800 ∪ slotRows 3 0 800)) := by
    ext j
    have h0 : (j 0).val < 4 := (j 0).isLt
    have h1 : (j 1).val < 800 := (j 1).isLt
    simp only [Finset.mem_union, mem_slotRows, Finset.mem_univ, true_iff]; omega
  show (((c : Thread nD τ).loc cc0_scratch0) ↦[(Finset.univ : Finset S4x800x4096.Idx)]{fullShare} e : sProp 𝕄) ⊣⊢ _
  rw [hu]
  refine (pointsTo_union ?_).trans (sep_congr_right ((pointsTo_union ?_).trans (sep_congr_right (pointsTo_union ?_))))
  · simp only [Finset.disjoint_union_right]; exact ⟨hd _ _ (by decide), hd _ _ (by decide), hd _ _ (by decide)⟩
  · simp only [Finset.disjoint_union_right]; exact ⟨hd _ _ (by decide), hd _ _ (by decide)⟩
  · exact hd _ _ (by decide)

/-- The four slots, each held at contents of its own, are the whole ring at some contents. -/
theorem ring_join (c : Dev nD) (e0 e1 e2 e3 : Buf (Elt F) ((c : Thread nD τ).loc cc0_scratch0)) :
    iprop(slotP c 0 0 800 e0 ∗ slotP c 1 0 800 e1 ∗ slotP c 2 0 800 e2 ∗ slotP c 3 0 800 e3)
      ⊢ iprop(∃ e, (((c : Thread nD τ).loc cc0_scratch0) ↦{fullShare} e : sProp 𝕄)) := by
  let e : Buf (Elt F) ((c : Thread nD τ).loc cc0_scratch0) := fun j =>
    if (j (0 : Fin 3)).val = 0 then e0 j else if (j (0 : Fin 3)).val = 1 then e1 j
    else if (j (0 : Fin 3)).val = 2 then e2 j else e3 j
  have hc : ∀ (g : ℕ) (f : Buf (Elt F) ((c : Thread nD τ).loc cc0_scratch0)),
      (∀ j : S4x800x4096.Idx, (j 0).val = g → f j = e j) → (slotP (F := F) c g 0 800 f) = slotP c g 0 800 e :=
    fun g f h => pointsTo_congr fun j hj => h j (mem_slotRows.mp hj).1
  rw [hc 0 e0 fun j h => by simp [e, h], hc 1 e1 fun j h => by simp [e, h], hc 2 e2 fun j h => by simp [e, h],
    hc 3 e3 fun j h => by simp [e, h]]
  iintro H
  iexists e
  iapply (ring_split c e).2
  iexact H

/-! ## The kernel's views of those parts -/

/-- The result array. -/
abbrev resM : Memref sig .tc .hbm S100000x4096 .f32 := Memref.whole main_v0
/-- The staging ring. -/
abbrev ringM : Memref sig .tc .vmem S4x800x4096 .f32 := Memref.whole cc0_scratch0
/-- The queries' working copy. -/
abbrev xbfM : Memref sig .tc .vmem S4096x128 .bf16 := Memref.whole cc0_scratch1

/-- The view of 200 rows of the result at the offsets `o`. -/
abbrev pieceM (o : Fin 2 → ℕ) (h : ∀ a, o a + S200x4096.size a ≤ S100000x4096.size a) : Memref sig .tc .hbm S200x4096 .f32 :=
  resM.slice (Rect.unit (s := S100000x4096) o S200x4096.size h) (fun _ => rfl)

/-- The view of 200 rows of one slot at the offsets `o`. -/
abbrev tileM (o : Fin 3 → ℕ) (h : ∀ a, o a + S1x200x4096.size a ≤ S4x800x4096.size a) : Memref sig .tc .vmem S200x4096 .f32 :=
  (ringM.slice (Rect.unit (s := S4x800x4096) o S1x200x4096.size h) (fun _ => rfl)).squeeze S200x4096 squeezes_S1x200x4096_S200x4096

/-- The semaphore at the offsets `o` of the 4 by 4 array. -/
abbrev cellM (o : Fin 2 → ℕ) (h : ∀ a, o a + S1x1.size a ≤ S4x4.size a) : DmaSems sig S_ :=
  (cc0_scratch2.slice (Rect.unit (s := S4x4) o S1x1.size h)).squeeze S_ squeezes_S1x1_S_

/-- A slot and a band name a semaphore of the array. -/
theorem cell_inb (g k : Fin 4) : ∀ a, (![g.val, k.val] : Fin 2 → ℕ) a + S1x1.size a ≤ S4x4.size a := by
  revert g k; decide

/-- The semaphore of slot `g` and band `k`. -/
abbrev cellS (g k : Fin 4) : SemLoc sig := SemLoc.dma (cellM ![g.val, k.val] (cell_inb g k)).sem

/-- The view of 200 rows of the result covers exactly those rows. -/
theorem pieceM_set (o) (h) {r : ℕ} (e : o = ![r, 0]) : (pieceM o h).view.set = resRows r (r + 200) := by
  subst e
  refine (View.set_slice_whole _ _).trans ?_
  ext j
  rw [Rect.mem_set_unit, mem_resRows]
  constructor
  · intro hj; exact hj 0
  · intro hj a
    match a with
    | ⟨0, _⟩ => exact hj
    | ⟨1, _⟩ => exact ⟨Nat.zero_le _, by
        have h1 : (j 1).val < 4096 := (j 1).isLt
        show (j 1).val < 0 + 4096; omega⟩

/-- A box of one slot over all columns covers exactly the rows it names. -/
theorem box_set (o : Fin 3 → ℕ) (n : ℕ) (h : ∀ a, o a + (![1, n, 4096] : Fin 3 → ℕ) a ≤ S4x800x4096.size a) {g r : ℕ}
    (e : o = ![g, r, 0]) : (Rect.unit (s := S4x800x4096) o ![1, n, 4096] h).set = slotRows g r (r + n) := by
  subst e
  ext j
  rw [Rect.mem_set_unit, mem_slotRows]
  constructor
  · intro hj
    have h0 := hj 0
    have h1 := hj 1
    simp at h0 h1
    exact ⟨by omega, h1⟩
  · intro hj a
    match a with
    | ⟨0, _⟩ => exact ⟨hj.1.ge, by rw [show (j ⟨0, _⟩).val = g from hj.1]; exact Nat.lt_succ_self g⟩
    | ⟨1, _⟩ => exact hj.2
    | ⟨2, _⟩ => exact ⟨Nat.zero_le _, by
        have h2 : (j 2).val < 4096 := (j 2).isLt
        show (j 2).val < 0 + 4096; omega⟩

/-- The view of 200 rows of a slot covers exactly those rows. -/
theorem tileM_set (o) (h) {g r : ℕ} (e : o = ![g, r, 0]) : (tileM o h).view.set = slotRows g r (r + 200) := by
  refine Eq.trans ?_ (box_set o 200 h e)
  simp only [tileM, Memref.view_squeeze, View.set_reshape]
  exact View.set_slice_whole _ _

/-- Where the view of 200 rows of the result finds its element. -/
theorem pieceM_emb (o) (h) {r : ℕ} (e : o = ![r, 0]) (x : S200x4096.Idx) :
    (((pieceM o h).view.emb x : S100000x4096.Idx) 0).val = r + (x 0).val
      ∧ (((pieceM o h).view.emb x : S100000x4096.Idx) 1).val = (x 1).val := by
  subst e
  constructor
  · show r + 1 * (x 0).val = _; omega
  · show 0 + 1 * (x 1).val = _; omega

/-- Where the view of 200 rows of a slot finds its element. -/
theorem tileM_emb (o) (h) {g r : ℕ} (e : o = ![g, r, 0]) (x : S200x4096.Idx) :
    (((tileM o h).view.emb x : S4x800x4096.Idx) 1).val = r + (x 0).val
      ∧ (((tileM o h).view.emb x : S4x800x4096.Idx) 2).val = (x 1).val := by
  subst e
  have hx : Shape.reshapeEquiv (squeezes_S1x200x4096_S200x4096).numel_eq x = Fin.cons ⟨0, Nat.one_pos⟩ x :=
    Shape.reshapeEquiv_cons_one (d := ![200, 4096]) _ x
  constructor
  · show r + 1 * ((Shape.reshapeEquiv (squeezes_S1x200x4096_S200x4096).numel_eq x : S1x200x4096.Idx) 1).val = _
    rw [hx, Nat.one_mul]; rfl
  · show 0 + 1 * ((Shape.reshapeEquiv (squeezes_S1x200x4096_S200x4096).numel_eq x : S1x200x4096.Idx) 2).val = _
    rw [hx, Nat.one_mul, Nat.zero_add]; rfl

end Cert.KernelIdeal.Hand

end
-- ==== Proof.Copies.lean ====
/-
  One copy of 200 rows out of a slot into the result, from its start to its wait. The facts are stated once, for any
  block, slot and band; the kernel's own offsets enter by equations.
-/
module

public import proofs.«01_k».proof.Proof.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The result array's contents, and what a slot holds once block `u` of such contents is in it: row `r` of the slot
    is row `800 u + r` of the array. -/
def slotV (G : S100000x4096.Idx → Elt F .f32) (u : ℕ) : S4x800x4096.Idx → Elt F .f32 :=
  fun j => G (ix2 (Fin.ofNat 100000 (800 * u + (j 1).val)) (⟨(j 2).val, (j 2).isLt⟩ : Fin 4096))

/-- The slot of block `u`. -/
abbrev sl (u : ℕ) : Fin 4 := ⟨u % 4, Nat.mod_lt _ (by decide)⟩

/-- How much a copy of 200 rows credits its semaphore. -/
def credit : ℕ := (pieceM ![0, 0] (by decide)).view.dmaCredit

/-- A copy credits its semaphore with something. -/
theorem credit_pos : 0 < credit := View.dmaCredit_pos _ (by decide)

/-- Every band's copy credits the same. -/
theorem piece_credit (o) (h) : (pieceM o h).view.dmaCredit = credit := rfl

/-- The first row of band `k` of block `u` in the result. -/
abbrev row0 (u k : ℕ) : ℕ := 800 * u + 200 * k

/-- The copy of band `k` of block `u` is under way: its wait will hand back the result's rows at `G` and the slot's
    rows as they were. -/
def flight (G : S100000x4096.Idx → Elt F .f32) (c : Dev nD) (u : ℕ) (k : Fin 4) : sProp 𝕄 :=
  Transfers.Flight countersEmb (c : Thread nD τ) (cellS (sl u) k) default credit
    iprop(resP c (row0 u k.val) (row0 u k.val + 200) G ∗ slotP c (sl u).val (200 * k.val) (200 * k.val + 200) (slotV G u))

/-- The semaphore of slot `g`, band `k`, at rest. -/
def cellP (c : Dev nD) (g k : Fin 4) : sProp 𝕄 := semVal ((c : Thread nD τ), cellS g k) 0

/-- The waits the core has on record, whichever they are. -/
def owesAny (c : Dev nD) : sProp 𝕄 := iprop(∃ W : Waits sig Unit, owes (c : Thread nD τ) 0 W)

/-- What a copy of band `k` of block `u` lands in the result is `G` there. -/
theorem landed (G : S100000x4096.Idx → Elt F .f32) (u : ℕ) (hu : u < 125) (k : Fin 4) (o2) (h2) (e2 : o2 = ![row0 u k.val, 0])
    (o3) (h3) (e3 : o3 = ![(sl u).val, 200 * k.val, 0]) (f : S100000x4096.Idx → Elt F .f32) (i : S100000x4096.Idx)
    (hi : i ∈ (pieceM o2 h2).view.set) :
    (pieceM o2 h2).view.write (Elt F) f (ReadAs.same.apply ((tileM o3 h3).view.read (Elt F) (slotV G u))) Finset.univ i = G i := by
  obtain ⟨x, -, rfl⟩ := Finset.mem_map.mp hi
  refine (View.write_emb_of_mem (v := (pieceM o2 h2).view) _ _ (Finset.mem_univ x)).trans ?_
  show slotV G u ((tileM o3 h3).view.emb x) = G ((pieceM o2 h2).view.emb x)
  obtain ⟨p0, p1⟩ := pieceM_emb o2 h2 e2 x
  obtain ⟨t1, t2⟩ := tileM_emb o3 h3 e3 x
  unfold slotV
  congr 1
  have hx : (x 0).val < 200 := (x 0).isLt
  have hk : k.val < 4 := k.isLt
  funext a
  match a with
  | ⟨0, _⟩ =>
    refine Fin.ext ?_
    show (800 * u + _) % 100000 = _
    rw [show _ = _ from t1, Nat.mod_eq_of_lt (by omega)]
    refine Eq.trans ?_ p0.symm
    show _ = 800 * u + 200 * k.val + _
    omega
  | ⟨1, _⟩ => exact Fin.ext (t2.trans p1.symm)

/-- STARTING a copy: from the slot's rows at block `u`'s values, the result's rows at anything and the semaphore at
    rest, the copy is under way. -/
theorem start_step (G : S100000x4096.Idx → Elt F .f32) (c : Dev nD) (u : ℕ) (hu : u < 125) (k : Fin 4)
    (o1) (h1) (e1 : o1 = ![(sl u).val, k.val]) (o2) (h2) (e2 : o2 = ![row0 u k.val, 0])
    (o3) (h3) (e3 : o3 = ![(sl u).val, 200 * k.val, 0])
    (f : S100000x4096.Idx → Elt F .f32)
    {hsrc : (tileM o3 h3).view.WordExact} {hdst : (pieceM o2 h2).view.WordExact}
    {hsem : DmaTarget.Typed (nD := nD) (τ := τ) (p := .tc) .vmem (SemLoc.dma (cellM o1 h1).sem) (.here (pieceM o2 h2))}
    {α : Type} {K : PUnit → Prog (TpuEff nD τ sig (Elt F) Λ₀ .tc) α} {Q : α → sProp 𝕄} :
    iprop(slotP c (sl u).val (200 * k.val) (200 * k.val + 200) (slotV G u) ∗ resP c (row0 u k.val) (row0 u k.val + 200) f
        ∗ cellP c (sl u) k)
      ⊢ iprop((flight G c u k -∗ wp frame (wpE (defs₀ (F := F)) Variants.none c none) Set.univ (K ⟨⟩) Q)
          -∗ wp frame (wpE (defs₀ (F := F)) Variants.none c none) Set.univ
              (.op (.enqueueDma (tileM o3 h3) (.here (pieceM o2 h2)) (.dma (cellM o1 h1).sem) hsrc hdst hsem) K) Q) := by
  have hs := tileM_set o3 h3 e3
  have hd := pieceM_set o2 h2 e2
  have hl := landed G u hu k o2 h2 e2 o3 h3 e3 f
  subst e1
  unfold cellP
  iintro ⟨Hs, Hd, Hv⟩ Hk
  iapply (Transfers.wp_dmaLocal countersEmb Variants.none (c : Thread nD τ) none (src := tileM o3 h3) (dst := pieceM o2 h2)
    (via := ReadAs.same) (sm := SemLoc.dma (cellM ![(sl u).val, k.val] h1).sem) default credit (piece_credit o2 h2) credit_pos (Finset.Subset.refl _) (q := fullShare)
    (fs := slotV G u) (fd := f)) $$ [Hs Hd Hv]
  · rw [hs, hd]
    isplitl [Hs]; · iexact Hs
    isplitl [Hd]; · iexact Hd
    iexact Hv
  iintro HF
  iapply Hk
  unfold flight
  iapply (Transfers.Flight_mono countersEmb (c : Thread nD τ) (D' := _) ?_) $$ HF
  rw [hs, pointsTo_congr hl, hd]

/-- WAITING for a copy: its flight and the record of waits give the result's rows at `G`, the slot's rows back, and the
    semaphore at rest. -/
theorem wait_step (G : S100000x4096.Idx → Elt F .f32) (c : Dev nD) (u : ℕ) (k : Fin 4)
    (o1) (h1) (e1 : o1 = ![(sl u).val, k.val]) (o2) (h2) (o3) (h3)
    {hsrc : (tileM o3 h3).view.WordExact} {hdst : (pieceM o2 h2).view.WordExact}
    {α : Type} {K : PUnit → Prog (TpuEff nD τ sig (Elt F) Λ₀ .tc) α} {Q : α → sProp 𝕄} :
    iprop(flight G c u k ∗ owesAny c)
      ⊢ iprop((iprop(resP c (row0 u k.val) (row0 u k.val + 200) G
            ∗ slotP c (sl u).val (200 * k.val) (200 * k.val + 200) (slotV G u) ∗ cellP c (sl u) k ∗ owesAny c)
            -∗ wp frame (wpE (defs₀ (F := F)) Variants.none c none) Set.univ (K ⟨⟩) Q)
          -∗ wp frame (wpE (defs₀ (F := F)) Variants.none c none) Set.univ
              (.op (.waitDma2 (cellM o1 h1).sem (tileM o3 h3) (pieceM o2 h2) hsrc hdst) K) Q) := by
  subst e1
  unfold flight owesAny cellP
  iintro ⟨HF, ⟨%W, HW⟩⟩ Hk
  iapply (Transfers.wp_waitLocal countersEmb Variants.none (c : Thread nD τ) none default (piece_credit o2 h2)) $$ [HF HW]
  · isplitl [HF]; · iexact HF
    iexact HW
  iintro ⟨⟨HR, HS⟩, Hv, HW⟩
  iapply Hk
  isplitl [HR]; · iexact HR
  isplitl [HS]; · iexact HS
  isplitl [Hv]; · iexact Hv
  iexists _; iexact HW

end Cert.KernelIdeal.Hand

end
-- ==== Proof.Values.lean ====
/-
  What the kernel writes: every element of the result as a function of the arguments, and the loads and stores that
  put a half of a block, or the last block whole, into a slot.
-/
module

public import proofs.«01_k».proof.Proof.Copies
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-! ## The result's elements -/

/-- The `n` rows of the memory bank from row `r` on. -/
def memRows (n : ℕ) (M : S100000x128.Idx → Elt F .f32) (r : ℕ) : (⟨2, ![n, 128]⟩ : Shape).Idx → Elt F .f32 :=
  fun j => M (ix2 (Fin.ofNat 100000 (r + (j 0).val)) (⟨(j 1).val, (j 1).isLt⟩ : Fin 128))

/-- Half a block: the 400 rows from row `400 q` on, times the queries, times the inverse temperature. -/
def half (p : Elt F .f32) (x : S4096x128.Idx → Elt F .f32) (M : S100000x128.Idx → Elt F .f32) (q : ℕ) : S400x4096.Idx → Elt F .f32 :=
  k0_pay5 (k0_pay1 p) (memRows 400 M (400 * q)) (k0_pay2 x)

/-- The last block: its 800 rows times the queries, times the inverse temperature. -/
def lastBlock (p : Elt F .f32) (x : S4096x128.Idx → Elt F .f32) (M : S100000x128.Idx → Elt F .f32) : S1x800x4096.Idx → Elt F .f32 :=
  k0_pay6 (k0_pay1 p) (memRows 800 M 99200) (k0_pay2 x)

/-- The result, row by row: below row 99200 by halves of blocks, from there on by the last block. -/
def outG (p : Elt F .f32) (x : S4096x128.Idx → Elt F .f32) (M : S100000x128.Idx → Elt F .f32) : S100000x4096.Idx → Elt F .f32 :=
  fun j =>
    if (j 0).val < 99200 then
      half p x M ((j 0).val / 400) (ix2 (Fin.ofNat 400 (j 0).val) (⟨(j 1).val, (j 1).isLt⟩ : Fin 4096))
    else lastBlock p x M (ix3 (0 : Fin 1) (Fin.ofNat 800 (j 0).val) (⟨(j 1).val, (j 1).isLt⟩ : Fin 4096))

/-- What is stored for half `h` of block `u` is the result at its rows. -/
theorem half_at (p : Elt F .f32) (x : S4096x128.Idx → Elt F .f32) (M : S100000x128.Idx → Elt F .f32) (u h : ℕ) (hu : u < 124)
    (hh : h < 2) (y : S1x400x4096.Idx) :
    k0_pay3 (half p x M (2 * u + h)) y
      = outG p x M (ix2 (Fin.ofNat 100000 (800 * u + (400 * h + (y 1).val))) (⟨(y 2).val, (y 2).isLt⟩ : Fin 4096)) := by
  have hy : (y 1).val < 400 := (y 1).isLt
  have e0 : ((ix2 (Fin.ofNat 100000 (800 * u + (400 * h + (y 1).val))) (⟨(y 2).val, (y 2).isLt⟩ : Fin 4096) : S100000x4096.Idx) 0).val
      = 800 * u + (400 * h + (y 1).val) := Nat.mod_eq_of_lt (by omega)
  unfold outG
  rw [e0, if_pos (by omega), show (800 * u + (400 * h + (y 1).val)) / 400 = 2 * u + h by omega]
  have ey : y = (ix3 (⟨(y 0).val, (y 0).isLt⟩ : Fin 1) (⟨(y 1).val, (y 1).isLt⟩ : Fin 400) (⟨(y 2).val, (y 2).isLt⟩ : Fin 4096)) := by
    funext a; match a with | ⟨0, _⟩ => rfl | ⟨1, _⟩ => rfl | ⟨2, _⟩ => rfl
  rw [ey]
  refine (ValueIdx.shapeCast_ab_1ab_apply (half p x M (2 * u + h)) shapeCasts_S400x4096_S1x400x4096 _ _ _).trans ?_
  congr 2
  refine Fin.ext ?_
  show (y 1).val = (800 * u + (400 * h + (y 1).val)) % 400
  omega

/-- What is stored for the last block is the result at its rows. -/
theorem last_at (p : Elt F .f32) (x : S4096x128.Idx → Elt F .f32) (M : S100000x128.Idx → Elt F .f32) (y : S1x800x4096.Idx) :
    lastBlock p x M y
      = outG p x M (ix2 (Fin.ofNat 100000 (800 * 124 + (0 + (y 1).val))) (⟨(y 2).val, (y 2).isLt⟩ : Fin 4096)) := by
  have hy : (y 1).val < 800 := (y 1).isLt
  have hy0 : (y 0).val < 1 := (y 0).isLt
  have e0 : ((ix2 (Fin.ofNat 100000 (800 * 124 + (0 + (y 1).val))) (⟨(y 2).val, (y 2).isLt⟩ : Fin 4096) : S100000x4096.Idx) 0).val
      = 800 * 124 + (0 + (y 1).val) := Nat.mod_eq_of_lt (by omega)
  unfold outG
  rw [e0, if_neg (by omega)]
  congr 1
  funext a
  match a with
  | ⟨0, _⟩ => exact Fin.ext (by show (y 0).val = 0; omega)
  | ⟨1, _⟩ => exact Fin.ext (by show (y 1).val = (800 * 124 + (0 + (y 1).val)) % 800; omega)
  | ⟨2, _⟩ => rfl

/-! ## Loads and stores -/

/-- LOADING a box of a buffer held by its view: the load reads the view's contents at the box. -/
theorem load_step (c : Dev nD) {cs : CoreSpace} {s : Shape} {e : EltTy} (m : Memref sig .tc cs s e) (q : PosShare TreeShare)
    (X : s.Idx → Elt F e) (r : LoadRect s) {hl : m.view.LoadsAt r} {α : Type}
    {K : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) Variants.none c none) Set.univ (K fun y => X (r.idx y)) Q)
          -∗ wp frame (wpE (defs₀ (F := F)) Variants.none c none) Set.univ (.op (.load m r hl) K) Q) := by
  unfold owns
  iintro ⟨%f, %hf, H⟩ Hk
  iapply (wp_load Variants.none (c : Thread nD τ) none Set.univ (m := m) (r := r) (View.setOn_subset_set _ _)) $$ H
  iintro H
  rw [show (m.view.readAt (Elt F) r f) = fun y => X (r.idx y) by subst hf; rfl]
  iapply Hk
  iexists f
  isplitr; · ipureintro; exact hf
  iexact H

/-- A box of a slot, loaded though nothing reads it: the rows stay as they were. -/
theorem load_slot (c : Dev nD) (g n rr : ℕ) (o : Fin 3 → ℕ) (h : ∀ a, o a + (![1, n, 4096] : Fin 3 → ℕ) a ≤ S4x800x4096.size a)
    (eo : o = ![g, rr, 0]) (e : S4x800x4096.Idx → Elt F .f32)
    {hl : ringM.view.LoadsAt (Rect.unit (s := S4x800x4096) o ![1, n, 4096] h).toLoadRect} {α : Type}
    {K : ((Rect.unit (s := S4x800x4096) o ![1, n, 4096] h).toLoadRect.shape.Idx → Elt F .f32) → Prog (TpuEff nD τ sig (Elt F) Λ₀ .tc) α}
    {Q : α → sProp 𝕄} :
    (slotP (F := F) c g rr (rr + n) e)
      ⊢ iprop((∀ v, slotP (F := F) c g rr (rr + n) e -∗ wp frame (wpE (defs₀ (F := F)) Variants.none c none) Set.univ (K v) Q)
          -∗ wp frame (wpE (defs₀ (F := F)) Variants.none c none) Set.univ
              (.op (.load ringM (Rect.unit (s := S4x800x4096) o ![1, n, 4096] h).toLoadRect hl) K) Q) := by
  have hs := box_set o n h eo
  iintro H Hk
  iapply (wp_load Variants.none (c : Thread nD τ) none Set.univ (m := ringM) (S := slotRows g rr (rr + n)) (f := e) ?_) $$ H
  · rw [← hs]
    intro i hi
    obtain ⟨j, hj, rfl⟩ := Finset.mem_map.mp hi
    exact hj
  iintro H
  iapply Hk
  iexact H

/-- STORING a box of a slot whose payload is block `u` of `G`: the slot's rows hold the block there. -/
theorem store_slot (G : S100000x4096.Idx → Elt F .f32) (c : Dev nD) (u g n rr : ℕ) (o : Fin 3 → ℕ)
    (h : ∀ a, o a + (![1, n, 4096] : Fin 3 → ℕ) a ≤ S4x800x4096.size a) (eo : o = ![g, rr, 0])
    (w : (⟨3, ![1, n, 4096]⟩ : Shape).Idx → Elt F .f32)
    (hw : ∀ y : (⟨3, ![1, n, 4096]⟩ : Shape).Idx,
      w y = G (ix2 (Fin.ofNat 100000 (800 * u + (rr + (y 1).val))) (⟨(y 2).val, (y 2).isLt⟩ : Fin 4096)))
    (e : S4x800x4096.Idx → Elt F .f32)
    {hx : (ringM.access (Rect.unit (s := S4x800x4096) o ![1, n, 4096] h)).Stores Finset.univ}
    {hm : (Finset.univ : Finset (Rect.unit (s := S4x800x4096) o ![1, n, 4096] h).shape.Idx) = Finset.univ
      ∨ ∀ a, (Rect.unit (s := S4x800x4096) o ![1, n, 4096] h).stride a = 1} {α : Type}
    {K : PUnit → Prog (TpuEff nD τ sig (Elt F) Λ₀ .tc) α} {Q : α → sProp 𝕄} :
    (slotP (F := F) c g rr (rr + n) e)
      ⊢ iprop((slotP (F := F) c g rr (rr + n) (slotV G u) -∗ wp frame (wpE (defs₀ (F := F)) Variants.none c none) Set.univ (K ⟨⟩) Q)
          -∗ wp frame (wpE (defs₀ (F := F)) Variants.none c none) Set.univ
              (.op (.store ringM (Rect.unit (s := S4x800x4096) o ![1, n, 4096] h) w Finset.univ hx hm) K) Q) := by
  have hs := box_set o n h eo
  have hs' : (ringM.access (Rect.unit (s := S4x800x4096) o ![1, n, 4096] h)).set = slotRows g rr (rr + n) :=
    (View.set_slice_whole _ _).trans hs
  have hv : ∀ i ∈ slotRows g rr (rr + n),
      (ringM.access (Rect.unit (s := S4x800x4096) o ![1, n, 4096] h)).write (Elt F) e w Finset.univ i = slotV G u i := by
    intro i hi
    rw [← hs'] at hi
    obtain ⟨y, -, rfl⟩ := Finset.mem_map.mp hi
    refine (View.write_emb_of_mem (v := ringM.access (Rect.unit (s := S4x800x4096) o ![1, n, 4096] h)) _ _ (Finset.mem_univ y)).trans ?_
    show w y = slotV G u ((Rect.unit (s := S4x800x4096) o ![1, n, 4096] h).emb y)
    rw [hw y]
    subst eo
    unfold slotV
    congr 1
    funext a
    match a with
    | ⟨0, _⟩ =>
      show Fin.ofNat 100000 (800 * u + (rr + (y 1).val)) = Fin.ofNat 100000 (800 * u + (rr + 1 * (y 1).val))
      rw [Nat.one_mul]
    | ⟨1, _⟩ =>
      refine Fin.ext ?_
      show (y 2).val = 0 + 1 * (y 2).val
      omega
  iintro H Hk
  iapply (wp_store Variants.none (c : Thread nD τ) none Set.univ (m := ringM)
    (r := Rect.unit (s := S4x800x4096) o ![1, n, 4096] h) (S := slotRows g rr (rr + n)) (f := e) ?_) $$ H
  · exact (View.setOn_subset_set _ _).trans hs'.le
  iintro H
  iapply Hk
  have he : (((c : Thread nD τ).loc cc0_scratch0) ↦[slotRows g rr (rr + n)]{fullShare}
      ((ringM.access (Rect.unit (s := S4x800x4096) o ![1, n, 4096] h)).write (Elt F) e w Finset.univ) : sProp 𝕄)
        = slotP c g rr (rr + n) (slotV G u) := pointsTo_congr hv
  rw [← he]
  iexact H

/-- The queries' working copy held at `y`. -/
abbrev xbfP (c : Dev nD) (y : S4096x128.Idx → Elt F .bf16) : sProp 𝕄 := owns (c : Thread nD τ) xbfM fullShare y

/-- STORING the queries' working copy whole. -/
theorem store_xbf (c : Dev nD) (h : ∀ a, (![0, 0] : Fin 2 → ℕ) a + S4096x128.size a ≤ S4096x128.size a)
    (w y : S4096x128.Idx → Elt F .bf16)
    {hx : (xbfM.access (Rect.unit (s := S4096x128) ![0, 0] S4096x128.size h)).Stores Finset.univ}
    {hm : (Finset.univ : Finset (Rect.unit (s := S4096x128) ![0, 0] S4096x128.size h).shape.Idx) = Finset.univ
      ∨ ∀ a, (Rect.unit (s := S4096x128) ![0, 0] S4096x128.size h).stride a = 1} {α : Type}
    {K : PUnit → Prog (TpuEff nD τ sig (Elt F) Λ₀ .tc) α} {Q : α → sProp 𝕄} :
    (xbfP (F := F) c y)
      ⊢ iprop((xbfP (F := F) c w -∗ wp frame (wpE (defs₀ (F := F)) Variants.none c none) Set.univ (K ⟨⟩) Q)
          -∗ wp frame (wpE (defs₀ (F := F)) Variants.none c none) Set.univ
              (.op (.store xbfM (Rect.unit (s := S4096x128) ![0, 0] S4096x128.size h) w Finset.univ hx hm) K) Q) := by
  unfold xbfP owns
  iintro ⟨%f, %hf, H⟩ Hk
  iapply (wp_store Variants.none (c : Thread nD τ) none Set.univ (m := xbfM)
    (r := Rect.unit (s := S4096x128) ![0, 0] S4096x128.size h) (S := xbfM.view.set) (f := f) ?_) $$ H
  · exact (View.setOn_subset_set _ _).trans (View.set_slice_subset _ _)
  iintro H
  iapply Hk
  iexists _
  isplitr
  · ipureintro
    show xbfM.view.read (Elt F) _ = w
    funext i
    have hi : (xbfM.access (Rect.unit (s := S4096x128) ![0, 0] S4096x128.size h)).emb i = xbfM.view.emb i :=
      funext fun a => Fin.ext (by
        match a with
        | ⟨0, _⟩ => show 0 + 1 * (i 0).val = (i 0).val; omega
        | ⟨1, _⟩ => show 0 + 1 * (i 1).val = (i 1).val; omega)
    rw [View.read_apply, ← hi]
    exact View.read_write_of_mem (v := xbfM.access (Rect.unit (s := S4096x128) ![0, 0] S4096x128.size h)) f w (Finset.mem_univ i)
  iexact H

end Cert.KernelIdeal.Hand

end
-- ==== Proof.Body.lean ====
/-
  The kernel's body at one grid point, region by region: the queries' working copy is made at point 0; the slot's
  earlier copies are waited for; a block is computed by halves and its copies started; the last point computes the
  last block and waits for everything.
-/
module

public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- A TensorCore program of the kernel. -/
abbrev TcProg (F : FTy → Type) [FloatOps F] := Prog (TpuEff nD τ sig (Elt F) Λ₀ .tc) PUnit

/-! ## Which regions run, and the offsets the kernel computes -/

/-- The first region is entered at point 0 only. -/
theorem cond1_iff : ∀ t : Fin grid0.N,
    Scalar.cmpi .ne (Scalar.extui (Scalar.cmpi .eq (BitVec.ofNat 32 ((grid0.coords t) 0).val) 0#32) : BitVec 32) 0#32 = 1#1 ↔ t.val = 0 := by
  decide +kernel
/-- The waits are entered from point 4 on. -/
theorem cond2_iff : ∀ t : Fin grid0.N, k0_cond2 (grid0.coords t) = 1#1 ↔ 4 ≤ t.val := by decide +kernel
/-- The two halves are computed below point 124. -/
theorem cond3_iff : ∀ t : Fin grid0.N, k0_cond3 (grid0.coords t) = 1#1 ↔ t.val < 124 := by decide +kernel
/-- The last region is entered at point 124 only. -/
theorem cond4_iff : ∀ t : Fin grid0.N,
    Scalar.cmpi .ne (Scalar.extui (Scalar.cmpi .eq (BitVec.ofNat 32 ((grid0.coords t) 0).val) 124#32) : BitVec 32) 0#32 = 1#1 ↔ t.val = 124 := by
  decide +kernel

/-- The semaphores' offsets: the slot and the band, for the waits (first four) and for the starts. -/
theorem off_cell : ∀ t : Fin grid0.N,
    (k0_off1 (grid0.coords t) = ![t.val % 4, 0] ∧ k0_off4 (grid0.coords t) = ![t.val % 4, 1]
      ∧ k0_off6 (grid0.coords t) = ![t.val % 4, 2] ∧ k0_off8 (grid0.coords t) = ![t.val % 4, 3])
    ∧ (k0_off11 (grid0.coords t) = ![t.val % 4, 0] ∧ k0_off14 (grid0.coords t) = ![t.val % 4, 1]
      ∧ k0_off17 (grid0.coords t) = ![t.val % 4, 2] ∧ k0_off19 (grid0.coords t) = ![t.val % 4, 3]) := by
  decide +kernel

/-- The slot's row offsets: of the two halves stored and loaded, and of the four bands copied. -/
theorem off_slot : ∀ t : Fin grid0.N,
    (k0_off10 (grid0.coords t) = ![t.val % 4, 0, 0] ∧ k0_off16 (grid0.coords t) = ![t.val % 4, 400, 0])
    ∧ (k0_off13 (grid0.coords t) = ![t.val % 4, 0, 0] ∧ k0_off15 (grid0.coords t) = ![t.val % 4, 200, 0]
      ∧ k0_off18 (grid0.coords t) = ![t.val % 4, 400, 0] ∧ k0_off20 (grid0.coords t) = ![t.val % 4, 600, 0]) := by
  decide +kernel

/-- The result's row offsets of the four bands copied. -/
theorem off_res : ∀ t : Fin grid0.N, t.val < 124 → ∀ k : Fin 4,
    k0_off12 (grid0.coords t) (BitVec.ofNat 32 (200 * k.val)) = ![row0 t.val k.val, 0] := by
  decide +kernel

/-! ## The body as four regions -/

/-- Point 0's region: the queries' working copy is stored. -/
def bodyA (t : Fin cfg0.N) : TcProg F :=
  if Scalar.cmpi .ne (Scalar.extui (Scalar.cmpi .eq (BitVec.ofNat 32 ((grid0.coords t) 0).val) 0#32) : BitVec 32) 0#32 = 1#1 then do
    let v ← Prog.lift (.load (st0_1 t) (Rect.unit (s := S4096x128) ![0, 0] S4096x128.size inb_S4096x128_S4096x128_0_0).toLoadRect (View.loadsAt_vmem h_S4096x128))
    let _ ← Prog.lift (.load xbfM (Rect.unit (s := S4096x128) ![0, 0] S4096x128.size inb_S4096x128_S4096x128_0_0).toLoadRect (View.loadsAt_vmem h_S4096x128))
    Prog.lift (.store xbfM (Rect.unit (s := S4096x128) ![0, 0] S4096x128.size inb_S4096x128_S4096x128_0_0) (k0_pay2 v) Finset.univ (View.stores_vmem h_S4096x128 ((Memref.isWhole_whole _).storeExact_slice rfl _ packedbf16_S4096x128_S4096x128_0_0) (fun _ => rfl)) (.inl rfl))
  else pure ⟨⟩

/-- From point 4 on: the copies that last used the slot are waited for. -/
def bodyB (t : Fin cfg0.N) : TcProg F :=
  if h : k0_cond2 (grid0.coords t) = 1#1 then do
    k0_part1 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2 (BitVec.ofNat 32 ((grid0.coords t) 0).val) h
    Prog.lift (.waitDma2 (cellM (k0_off8 (grid0.coords t)) (k0_off8_inb _ h)).sem (tileM (k0_off9 (grid0.coords t)) (k0_off9_inb _ h)) (pieceM (k0_off2 (grid0.coords t) 600#32) (k0_off2_inb _ h 3)) ((View.wordExact_bits rfl).reshape _ _) (View.wordExact_bits rfl))
  else pure ⟨⟩

/-- Below the last point: a block is computed by halves and its four copies are started. -/
def bodyC (t : Fin cfg0.N) (v2 : F .f32) : TcProg F :=
  if h : k0_cond3 (grid0.coords t) = 1#1 then do
    let v ← k0_part2 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2 (BitVec.ofNat 32 ((grid0.coords t) 0).val) (Scalar.remsi (BitVec.ofNat 32 ((grid0.coords t) 0).val) 4#32) v2 h
    let _ ← Prog.lift (.load ringM (Rect.unit (s := S4x800x4096) (k0_off16 (grid0.coords t)) S1x400x4096.size (k0_off16_inb _ h)).toLoadRect (View.loadsAt_vmem h_S1x400x4096))
    Prog.lift (.store ringM (Rect.unit (s := S4x800x4096) (k0_off16 (grid0.coords t)) S1x400x4096.size (k0_off16_inb _ h)) (k0_pay3 v) Finset.univ (View.stores_vmem_bits_univ h_S1x400x4096 rfl) (.inl rfl))
    Prog.lift (.enqueueDma (tileM (k0_off18 (grid0.coords t)) (k0_off18_inb _ h)) (.here (pieceM (k0_off12 (grid0.coords t) 400#32) (k0_off12_inb _ h 2))) (.dma (cellM (k0_off17 (grid0.coords t)) (k0_off17_inb _ h)).sem) ((View.wordExact_bits rfl).reshape _ _) (View.wordExact_bits rfl) ⟨Or.inl rfl, trivial⟩)
    Prog.lift (.enqueueDma (tileM (k0_off20 (grid0.coords t)) (k0_off20_inb _ h)) (.here (pieceM (k0_off12 (grid0.coords t) 600#32) (k0_off12_inb _ h 3))) (.dma (cellM (k0_off19 (grid0.coords t)) (k0_off19_inb _ h)).sem) ((View.wordExact_bits rfl).reshape _ _) (View.wordExact_bits rfl) ⟨Or.inl rfl, trivial⟩)
  else pure ⟨⟩

/-- The last point: the last block, its copies, and every wait still due. -/
def bodyD (t : Fin cfg0.N) (v2 : F .f32) : TcProg F :=
  if Scalar.cmpi .ne (Scalar.extui (Scalar.cmpi .eq (BitVec.ofNat 32 ((grid0.coords t) 0).val) 124#32) : BitVec 32) 0#32 = 1#1 then do
    k0_part3 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2 v2
    k0_part4 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2
    k0_part5 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2
    k0_part6 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) resM (Memref.isWhole_whole _) ringM (Memref.isWhole_whole _) xbfM (Memref.isWhole_whole _) cc0_scratch2
    Prog.lift (.waitDma2 (cellM ![1, 1] inb_S4x4_S1x1_1_1).sem (tileM ![1, 200, 0] inb_S4x800x4096_S1x200x4096_1_200_0) (pieceM ![97000, 0] inb_S100000x4096_S200x4096_97000_0) ((View.wordExact_bits rfl).reshape _ _) (View.wordExact_bits rfl))
    Prog.lift (.waitDma2 (cellM ![1, 2] inb_S4x4_S1x1_1_2).sem (tileM ![1, 400, 0] inb_S4x800x4096_S1x200x4096_1_400_0) (pieceM ![97200, 0] inb_S100000x4096_S200x4096_97200_0) ((View.wordExact_bits rfl).reshape _ _) (View.wordExact_bits rfl))
    Prog.lift (.waitDma2 (cellM ![1, 3] inb_S4x4_S1x1_1_3).sem (tileM ![1, 600, 0] inb_S4x800x4096_S1x200x4096_1_600_0) (pieceM ![97400, 0] inb_S100000x4096_S200x4096_97400_0) ((View.wordExact_bits rfl).reshape _ _) (View.wordExact_bits rfl))
  else pure ⟨⟩

/-- The body at a point is the temperature's load and then the four regions. -/
theorem body_eq (t : Fin cfg0.N) :
    bodyAt0 (F := F) t = (do
      let v1 ← smemLoad (win0_0.stage (cfg0.slots t 0)) (Rect.unit (s := S2) ![0] S1.size inb_S2_S1_0) numel1_S1 rfl
      bodyA t
      bodyB t
      bodyC t (k0_pay1 v1)
      bodyD t (k0_pay1 v1)) := by
  unfold bodyAt0
  rw [cc0__body_eq_skeleton]
  unfold cc0__body_skel bodyA bodyB bodyC bodyD
  by_cases h1 : Scalar.cmpi .ne (Scalar.extui (Scalar.cmpi .eq (BitVec.ofNat 32 ((grid0.coords t) 0).val) 0#32) : BitVec 32) 0#32 = 1#1 <;>
  by_cases h2 : k0_cond2 (grid0.coords t) = 1#1 <;>
  by_cases h3 : k0_cond3 (grid0.coords t) = 1#1 <;>
  by_cases h4 : Scalar.cmpi .ne (Scalar.extui (Scalar.cmpi .eq (BitVec.ofNat 32 ((grid0.coords t) 0).val) 124#32) : BitVec 32) 0#32 = 1#1 <;>
  simp only [h1, h2, h3, h4, dif_pos, dif_neg, if_true, if_false, not_false_eq_true, dite_true, dite_false, bind_assoc, pure_bind, bind_pure] <;>
  rfl

end Cert.KernelIdeal.Hand

end
-- ==== Proof.Runs.lean ====
/-
  The four regions of the body run: what each takes, what it gives back.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-! ## A block as four bands, a slot as four bands and as two halves -/

/-- Band `k` of block `u` of the result, held at `f`. -/
abbrev bandR (c : Dev nD) (u : ℕ) (k : Fin 4) (f : S100000x4096.Idx → Elt F .f32) : sProp 𝕄 :=
  resP c (row0 u k.val) (row0 u k.val + 200) f

/-- Band `k` of slot `g`, held at `e`. -/
abbrev bandS (c : Dev nD) (g : ℕ) (k : Fin 4) (e : S4x800x4096.Idx → Elt F .f32) : sProp 𝕄 :=
  slotP c g (200 * k.val) (200 * k.val + 200) e

/-- A block of the result is its four bands. -/
theorem res_bands (c : Dev nD) (u : ℕ) (f : S100000x4096.Idx → Elt F .f32) :
    (resP (F := F) c (800 * u) (800 * u + 800) f)
      ⊣⊢ iprop((bandR c u 0 f ∗ bandR c u 1 f) ∗ (bandR c u 2 f ∗ bandR c u 3 f)) :=
  (resP_split c (mid := 800 * u + 400) (by omega) (by omega) f).trans
    (sep_congr (resP_split c (mid := 800 * u + 200) (by omega) (by omega) f)
      (resP_split c (mid := 800 * u + 600) (by omega) (by omega) f))

/-- A slot is its two halves. -/
theorem slot_halves (c : Dev nD) (g : ℕ) (e : S4x800x4096.Idx → Elt F .f32) :
    (slotP (F := F) c g 0 800 e) ⊣⊢ iprop(slotP c g 0 (0 + 400) e ∗ slotP c g 400 (400 + 400) e) :=
  slotP_split c g (mid := 400) (by omega) (by omega) e

/-- The first half is bands 0 and 1. -/
theorem half_bands0 (c : Dev nD) (g : ℕ) (e : S4x800x4096.Idx → Elt F .f32) :
    (slotP (F := F) c g 0 (0 + 400) e) ⊣⊢ iprop(bandS c g 0 e ∗ bandS c g 1 e) :=
  slotP_split c g (mid := 200) (by omega) (by omega) e

/-- The second half is bands 2 and 3. -/
theorem half_bands1 (c : Dev nD) (g : ℕ) (e : S4x800x4096.Idx → Elt F .f32) :
    (slotP (F := F) c g 400 (400 + 400) e) ⊣⊢ iprop(bandS c g 2 e ∗ bandS c g 3 e) :=
  slotP_split c g (mid := 600) (by omega) (by omega) e

/-- A slot is its four bands. -/
theorem slot_bands (c : Dev nD) (g : ℕ) (e : S4x800x4096.Idx → Elt F .f32) :
    (slotP (F := F) c g 0 800 e) ⊣⊢ iprop((bandS c g 0 e ∗ bandS c g 1 e) ∗ (bandS c g 2 e ∗ bandS c g 3 e)) :=
  (slot_halves c g e).trans (sep_congr (half_bands0 c g e) (half_bands1 c g e))

/-! ## What a slot holds between points -/

/-- Slot `g`'s four semaphores at rest. -/
def cells (c : Dev nD) (g : Fin 4) : sProp 𝕄 :=
  iprop((cellP c g 0 ∗ cellP c g 1) ∗ (cellP c g 2 ∗ cellP c g 3))

/-- Slot `g` with no copy under way: its rows at some contents and its semaphores at rest. -/
def slotFree (c : Dev nD) (g : Fin 4) : sProp 𝕄 := iprop((∃ e : S4x800x4096.Idx → Elt F .f32, slotP c g.val 0 800 e) ∗ cells c g)

/-- Block `u`'s four copies under way. -/
def blockOut (G : S100000x4096.Idx → Elt F .f32) (c : Dev nD) (u : ℕ) : sProp 𝕄 :=
  iprop((flight G c u 0 ∗ flight G c u 1) ∗ (flight G c u 2 ∗ flight G c u 3))

/-- A block's copies all arrived: its rows of the result at `G`, its slot free. -/
theorem arrived (G : S100000x4096.Idx → Elt F .f32) (c : Dev nD) (u : ℕ) (g : Fin 4) (hg : sl u = g) :
    iprop((bandR (F := F) c u 0 G ∗ bandS c (sl u).val 0 (slotV G u) ∗ cellP c (sl u) 0)
        ∗ (bandR (F := F) c u 1 G ∗ bandS c (sl u).val 1 (slotV G u) ∗ cellP c (sl u) 1)
        ∗ (bandR (F := F) c u 2 G ∗ bandS c (sl u).val 2 (slotV G u) ∗ cellP c (sl u) 2)
        ∗ (bandR (F := F) c u 3 G ∗ bandS c (sl u).val 3 (slotV G u) ∗ cellP c (sl u) 3))
      ⊢ iprop(resP (F := F) c (800 * u) (800 * u + 800) G ∗ slotFree (F := F) c g) := by
  subst hg
  unfold slotFree cells
  iintro ⟨⟨R0, S0, C0⟩, ⟨R1, S1, C1⟩, ⟨R2, S2, C2⟩, ⟨R3, S3, C3⟩⟩
  isplitl [R0 R1 R2 R3]
  · iapply (res_bands c u G).2
    isplitl [R0 R1]
    · isplitl [R0] <;> iassumption
    isplitl [R2] <;> iassumption
  isplitl [S0 S1 S2 S3]
  · iexists (slotV G u)
    iapply (slot_bands c (sl u).val (slotV G u)).2
    isplitl [S0 S1]
    · isplitl [S0] <;> iassumption
    isplitl [S2] <;> iassumption
  isplitl [C0 C1]
  · isplitl [C0] <;> iassumption
  isplitl [C2] <;> iassumption

/-! ## Straightening the program -/

/-- A request followed by a continuation. -/
theorem lift_bind {α β : Type} (e : TpuEff nD τ sig (Elt F) Λ₀ .tc α) (k : α → Prog (TpuEff nD τ sig (Elt F) Λ₀ .tc) β) :
    (Prog.lift e >>= k) = .op e k := rfl

/-- A request's continuation absorbs what follows. -/
theorem op_bind {α β γ : Type} (e : TpuEff nD τ sig (Elt F) Λ₀ .tc α) (k : α → Prog (TpuEff nD τ sig (Elt F) Λ₀ .tc) β)
    (g : β → Prog (TpuEff nD τ sig (Elt F) Λ₀ .tc) γ) : (Prog.op e k >>= g) = .op e fun a => k a >>= g := rfl

/-! ## Loads of whole windows and of bands of rows -/

/-- A load of a whole window reads its contents. -/
theorem load_whole (c : Dev nD) {cs : CoreSpace} {s : Shape} {e : EltTy} (m : Memref sig .tc cs s e) (q : PosShare TreeShare)
    (X : s.Idx → Elt F e) (off : Fin s.rank → ℕ) (h : ∀ a, off a + s.size a ≤ s.size a)
    {hl : m.view.LoadsAt (Rect.unit off s.size h).toLoadRect} {α : Type}
    {K : (s.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE (defs₀ (F := F)) Variants.none c none) Set.univ (K X) Q)
          -∗ wp frame (wpE (defs₀ (F := F)) Variants.none c none) Set.univ
              (.op (.load m (Rect.unit off s.size h).toLoadRect hl) K) Q) := by
  have e : (fun y : (Rect.unit off s.size h).toLoadRect.shape.Idx => X ((Rect.unit off s.size h).toLoadRect.idx y)) = X := by
    funext y
    exact congrArg X (funext fun a => Fin.ext (by
      show off a + 1 * (y a).val = (y a).val
      have := h a; omega))
  have hs := load_step c m q X (Rect.unit off s.size h).toLoadRect (hl := hl) (K := K) (Q := Q)
  rw [e] at hs
  exact hs

/-- A load of a band of the memory block reads the bank's rows there. -/
theorem load_rows (c : Dev nD) (m : Memref sig .tc .vmem S800x128 .f32) (M : S100000x128.Idx → Elt F .f32) (r o : ℕ)
    (h : ∀ a, (![o, 0] : Fin 2 → ℕ) a + S400x128.size a ≤ S800x128.size a) (q : ℕ) (hq : r + o = q)
    {hl : m.view.LoadsAt (Rect.unit (s := S800x128) ![o, 0] S400x128.size h).toLoadRect} {α : Type}
    {K : (S400x128.Idx → Elt F .f32) → Prog (TpuEff nD τ sig (Elt F) Λ₀ .tc) α} {Q : α → sProp 𝕄} :
    (owns (c : Thread nD τ) m fullShare (memRows 800 M r) : sProp 𝕄)
      ⊢ iprop((owns (c : Thread nD τ) m fullShare (memRows 800 M r)
            -∗ wp frame (wpE (defs₀ (F := F)) Variants.none c none) Set.univ (K (memRows 400 M q)) Q)
          -∗ wp frame (wpE (defs₀ (F := F)) Variants.none c none) Set.univ
              (.op (.load m (Rect.unit (s := S800x128) ![o, 0] S400x128.size h).toLoadRect hl) K) Q) := by
  have e : (fun y : (Rect.unit (s := S800x128) ![o, 0] S400x128.size h).toLoadRect.shape.Idx =>
      memRows 800 M r ((Rect.unit (s := S800x128) ![o, 0] S400x128.size h).toLoadRect.idx y)) = memRows 400 M q := by
    subst hq
    funext y
    unfold memRows
    congr 1
    funext a
    match a with
    | ⟨0, _⟩ =>
      show Fin.ofNat 100000 (r + (o + 1 * (y 0).val)) = Fin.ofNat 100000 (r + o + (y 0).val)
      congr 1; omega
    | ⟨1, _⟩ =>
      refine Fin.ext ?_
      show 0 + 1 * (y 1).val = (y 1).val
      omega
  have hs := load_step c m fullShare (memRows 800 M r) (Rect.unit (s := S800x128) ![o, 0] S400x128.size h).toLoadRect
    (hl := hl) (K := K) (Q := Q)
  rw [e] at hs
  exact hs

/-! ## Four waits in a row -/

/-- The four waits on a block's copies, one after the other, bring its rows and free its slot. -/
theorem wait_block (G : S100000x4096.Idx → Elt F .f32) (c : Dev nD) (u : ℕ) (g : Fin 4) (hg : sl u = g)
    (o0) (h0) (e0 : o0 = ![(sl u).val, (0 : Fin 4).val]) (o1) (h1) (e1 : o1 = ![(sl u).val, (1 : Fin 4).val])
    (o2) (h2) (e2 : o2 = ![(sl u).val, (2 : Fin 4).val]) (o3) (h3) (e3 : o3 = ![(sl u).val, (3 : Fin 4).val])
    (a0) (ha0) (a1) (ha1) (a2) (ha2) (a3) (ha3) (b0) (hb0) (b1) (hb1) (b2) (hb2) (b3) (hb3)
    {x0 : (tileM a0 ha0).view.WordExact} {y0 : (pieceM b0 hb0).view.WordExact}
    {x1 : (tileM a1 ha1).view.WordExact} {y1 : (pieceM b1 hb1).view.WordExact}
    {x2 : (tileM a2 ha2).view.WordExact} {y2 : (pieceM b2 hb2).view.WordExact}
    {x3 : (tileM a3 ha3).view.WordExact} {y3 : (pieceM b3 hb3).view.WordExact}
    {α : Type} {K : PUnit → Prog (TpuEff nD τ sig (Elt F) Λ₀ .tc) α} {Q : α → sProp 𝕄} :
    iprop(blockOut G c u ∗ owesAny (F := F) c)
      ⊢ iprop((iprop((resP (F := F) c (800 * u) (800 * u + 800) G ∗ slotFree (F := F) c g) ∗ owesAny (F := F) c)
            -∗ wp frame (wpE (defs₀ (F := F)) Variants.none c none) Set.univ (K ⟨⟩) Q)
          -∗ wp frame (wpE (defs₀ (F := F)) Variants.none c none) Set.univ
              (.op (.waitDma2 (cellM o0 h0).sem (tileM a0 ha0) (pieceM b0 hb0) x0 y0) fun _ =>
                .op (.waitDma2 (cellM o1 h1).sem (tileM a1 ha1) (pieceM b1 hb1) x1 y1) fun _ =>
                .op (.waitDma2 (cellM o2 h2).sem (tileM a2 ha2) (pieceM b2 hb2) x2 y2) fun _ =>
                .op (.waitDma2 (cellM o3 h3).sem (tileM a3 ha3) (pieceM b3 hb3) x3 y3) K) Q) := by
  unfold blockOut
  iintro ⟨⟨⟨F0, F1⟩, F2, F3⟩, HW⟩ Hk
  iapply (wait_step G c u 0 _ _ e0 _ _ _ _) $$ [F0 HW]
  · isplitl [F0] <;> iassumption
  iintro ⟨R0, S0, C0, HW⟩
  iapply (wait_step G c u 1 _ _ e1 _ _ _ _) $$ [F1 HW]
  · isplitl [F1] <;> iassumption
  iintro ⟨R1, S1, C1, HW⟩
  iapply (wait_step G c u 2 _ _ e2 _ _ _ _) $$ [F2 HW]
  · isplitl [F2] <;> iassumption
  iintro ⟨R2, S2, C2, HW⟩
  iapply (wait_step G c u 3 _ _ e3 _ _ _ _) $$ [F3 HW]
  · isplitl [F3] <;> iassumption
  iintro ⟨R3, S3, C3, HW⟩
  iapply Hk
  isplitr [HW]
  · iapply (arrived G c u g hg)
    isplitl [R0 S0 C0]
    · isplitl [R0]; · iexact R0
      isplitl [S0] <;> iassumption
    isplitl [R1 S1 C1]
    · isplitl [R1]; · iexact R1
      isplitl [S1] <;> iassumption
    isplitl [R2 S2 C2]
    · isplitl [R2]; · iexact R2
      isplitl [S2] <;> iassumption
    isplitl [R3]; · iexact R3
    isplitl [S3] <;> iassumption
  iexact HW

/-! ## The regions' runs -/

/-- Point 0's region leaves the queries' working copy at the queries' narrowed values; at later points it is there. -/
theorem runA (c : Dev nD) (t : Fin cfg0.N) (x : S4096x128.Idx → Elt F .f32) (Q : PUnit → sProp 𝕄) :
    iprop(owns (c : Thread nD τ) (st0_1 t) fullShare x ∗ (∃ y, ⌜t.val ≠ 0 → y = k0_pay2 x⌝ ∗ xbfP (F := F) c y)
        ∗ (iprop(owns (c : Thread nD τ) (st0_1 t) fullShare x ∗ xbfP (F := F) c (k0_pay2 x)) -∗ Q ⟨⟩))
      ⊢ wp frame (wpE (defs₀ (F := F)) Variants.none c none) Set.univ (bodyA t) Q := by
  unfold bodyA
  iintro ⟨HX, ⟨%y, %hy, Hx⟩, Hk⟩
  by_cases h : t.val = 0
  · rw [if_pos ((cond1_iff t).2 h)]
    simp only [lift_bind]
    iapply (load_whole c (st0_1 t) fullShare x ![0, 0] inb_S4096x128_S4096x128_0_0) $$ HX
    iintro HX
    iapply (load_whole c xbfM fullShare y ![0, 0] inb_S4096x128_S4096x128_0_0) $$ Hx
    iintro Hx
    iapply (store_xbf c inb_S4096x128_S4096x128_0_0 _ y) $$ Hx
    iintro Hx
    rw [wp_ret]
    imodintro
    iapply Hk
    isplitl [HX] <;> iassumption
  · rw [if_neg (fun h' => h ((cond1_iff t).1 h')), wp_pure, hy h]
    imodintro
    iapply Hk
    isplitl [HX] <;> iassumption

/-- From point 4 on: the four copies that last used the slot arrive. -/
theorem runB (G : S100000x4096.Idx → Elt F .f32) (c : Dev nD) (t : Fin cfg0.N) (h : 4 ≤ t.val) (Q : PUnit → sProp 𝕄) :
    iprop((blockOut G c (t.val - 4) ∗ owesAny (F := F) c)
        ∗ (iprop((resP (F := F) c (800 * (t.val - 4)) (800 * (t.val - 4) + 800) G ∗ slotFree (F := F) c (sl t.val)) ∗ owesAny (F := F) c) -∗ Q ⟨⟩))
      ⊢ wp frame (wpE (defs₀ (F := F)) Variants.none c none) Set.univ (bodyB t) Q := by
  unfold bodyB
  have e : (t.val - 4) % 4 = t.val % 4 := by omega
  obtain ⟨⟨o0, o1, o2, o3⟩, -⟩ := off_cell t
  rw [← e] at o0 o1 o2 o3
  rw [dif_pos ((cond2_iff t).2 h), k0_part1_eq_skeleton]
  unfold k0_part1_skel
  simp only [bind_assoc, pure_bind, lift_bind, op_bind]
  iintro ⟨HF, Hk⟩
  iapply (wait_block G c (t.val - 4) (sl t.val) (Fin.ext e) _ _ o0 _ _ o1 _ _ o2 _ _ o3) $$ HF
  iintro H
  rw [wp_ret]
  imodintro
  iapply Hk
  iexact H

/-- Before point 4 nothing is waited for. -/
theorem runB_skip (c : Dev nD) (t : Fin cfg0.N) (h : t.val < 4) (Q : PUnit → sProp 𝕄) :
    Q ⟨⟩ ⊢ wp frame (wpE (defs₀ (F := F)) Variants.none c none) Set.univ (bodyB t) Q := by
  unfold bodyB
  rw [dif_neg (fun h' => absurd ((cond2_iff t).1 h') (by omega)), wp_pure]
  iintro H
  imodintro
  iexact H

/-- Below the last point: the block's four copies are under way. -/
theorem runC (c : Dev nD) (t : Fin cfg0.N) (h : t.val < 124) (p : Elt F .f32) (x : S4096x128.Idx → Elt F .f32)
    (M : S100000x128.Idx → Elt F .f32) (f : S100000x4096.Idx → Elt F .f32) (Q : PUnit → sProp 𝕄) :
    iprop((owns (c : Thread nD τ) (st0_2 t) fullShare (memRows 800 M (800 * t.val)) ∗ xbfP (F := F) c (k0_pay2 x)
          ∗ resP (F := F) c (800 * t.val) (800 * t.val + 800) f ∗ slotFree (F := F) c (sl t.val))
        ∗ (iprop(owns (c : Thread nD τ) (st0_2 t) fullShare (memRows 800 M (800 * t.val)) ∗ xbfP (F := F) c (k0_pay2 x)
            ∗ blockOut (outG p x M) c t.val) -∗ Q ⟨⟩))
      ⊢ wp frame (wpE (defs₀ (F := F)) Variants.none c none) Set.univ (bodyC t (k0_pay1 p)) Q := by
  unfold bodyC slotFree cells blockOut
  obtain ⟨-, o0, o1, o2, o3⟩ := off_cell t
  obtain ⟨⟨s0, s1⟩, q0, q1, q2, q3⟩ := off_slot t
  have r := off_res t h
  have hu : t.val < 125 := by omega
  rw [dif_pos ((cond3_iff t).2 h), k0_part2_eq_skeleton]
  unfold k0_part2_skel
  simp only [bind_assoc, pure_bind, lift_bind, op_bind]
  iintro ⟨⟨HB, Hx, HR, ⟨%e, HS⟩, ⟨C0, C1⟩, C2, C3⟩, Hk⟩
  ihave HR := (res_bands c t.val f).1 $$ HR
  icases HR with ⟨⟨R0, R1⟩, R2, R3⟩
  ihave HS := (slot_halves c (sl t.val).val e).1 $$ HS
  icases HS with ⟨S0, S1⟩
  -- the first half
  iapply (load_rows c (st0_2 t) M (800 * t.val) 0 inb_S800x128_S400x128_0_0 (400 * (2 * t.val + 0)) (by omega)) $$ HB
  iintro HB
  iapply (load_whole c xbfM fullShare (k0_pay2 x) ![0, 0] inb_S4096x128_S4096x128_0_0) $$ Hx
  iintro Hx
  iapply (load_slot c (sl t.val).val 400 0 _ _ s0 e) $$ S0
  iintro %v S0
  iapply (store_slot (outG p x M) c t.val (sl t.val).val 400 0 _ _ s0 _ (half_at p x M t.val 0 h (by omega)) e) $$ S0
  iintro S0
  ihave S0 := (half_bands0 c (sl t.val).val (slotV (outG p x M) t.val)).1 $$ S0
  icases S0 with ⟨S00, S01⟩
  iapply (start_step (outG p x M) c t.val hu 0 _ _ o0 _ _ (r 0) _ _ q0 f) $$ [S00 R0 C0]
  · isplitl [S00]; · iexact S00
    isplitl [R0] <;> iassumption
  iintro F0
  iapply (start_step (outG p x M) c t.val hu 1 _ _ o1 _ _ (r 1) _ _ q1 f) $$ [S01 R1 C1]
  · isplitl [S01]; · iexact S01
    isplitl [R1] <;> iassumption
  iintro F1
  -- the second half
  iapply (load_rows c (st0_2 t) M (800 * t.val) 400 inb_S800x128_S400x128_400_0 (400 * (2 * t.val + 1)) (by omega)) $$ HB
  iintro HB
  iapply (load_whole c xbfM fullShare (k0_pay2 x) ![0, 0] inb_S4096x128_S4096x128_0_0) $$ Hx
  iintro Hx
  iapply (load_slot c (sl t.val).val 400 400 _ _ s1 e) $$ S1
  iintro %v' S1
  iapply (store_slot (outG p x M) c t.val (sl t.val).val 400 400 _ _ s1 _ (half_at p x M t.val 1 h (by omega)) e) $$ S1
  iintro S1
  ihave S1 := (half_bands1 c (sl t.val).val (slotV (outG p x M) t.val)).1 $$ S1
  icases S1 with ⟨S10, S11⟩
  iapply (start_step (outG p x M) c t.val hu 2 _ _ o2 _ _ (r 2) _ _ q2 f) $$ [S10 R2 C2]
  · isplitl [S10]; · iexact S10
    isplitl [R2] <;> iassumption
  iintro F2
  iapply (start_step (outG p x M) c t.val hu 3 _ _ o3 _ _ (r 3) _ _ q3 f) $$ [S11 R3 C3]
  · isplitl [S11]; · iexact S11
    isplitl [R3] <;> iassumption
  iintro F3
  rw [wp_ret]
  imodintro
  iapply Hk
  isplitl [HB]; · iexact HB
  isplitl [Hx]; · iexact Hx
  isplitl [F0 F1]
  · isplitl [F0] <;> iassumption
  isplitl [F2] <;> iassumption

/-- At the last point nothing runs here. -/
theorem runC_skip (c : Dev nD) (t : Fin cfg0.N) (h : ¬ t.val < 124) (v : F .f32) (Q : PUnit → sProp 𝕄) :
    Q ⟨⟩ ⊢ wp frame (wpE (defs₀ (F := F)) Variants.none c none) Set.univ (bodyC t v) Q := by
  unfold bodyC
  rw [dif_neg (fun h' => h ((cond3_iff t).1 h')), wp_pure]
  iintro H
  imodintro
  iexact H

end Cert.KernelIdeal.Hand

end
-- ==== Proof.RunD.lean ====
/-
  The last point's region: the last block, its copies, and every wait still due.
-/
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The last point: the last block's copies are started, and every copy under way arrives. -/
theorem runD (c : Dev nD) (t : Fin cfg0.N) (h : t.val = 124) (p : Elt F .f32) (x : S4096x128.Idx → Elt F .f32)
    (M : S100000x128.Idx → Elt F .f32) (f : S100000x4096.Idx → Elt F .f32) (Q : PUnit → sProp 𝕄) :
    iprop((owns (c : Thread nD τ) (st0_2 t) fullShare (memRows 800 M 99200) ∗ xbfP (F := F) c (k0_pay2 x)
          ∗ resP (F := F) c (800 * 124) (800 * 124 + 800) f ∗ slotFree (F := F) c (sl 124)
          ∗ blockOut (outG p x M) c 123 ∗ blockOut (outG p x M) c 122 ∗ blockOut (outG p x M) c 121 ∗ owesAny (F := F) c)
        ∗ (iprop(owns (c : Thread nD τ) (st0_2 t) fullShare (memRows 800 M 99200) ∗ xbfP (F := F) c (k0_pay2 x)
            ∗ (resP (F := F) c (800 * 124) (800 * 124 + 800) (outG p x M) ∗ slotFree (F := F) c 0)
            ∗ (resP (F := F) c (800 * 123) (800 * 123 + 800) (outG p x M) ∗ slotFree (F := F) c 3)
            ∗ (resP (F := F) c (800 * 122) (800 * 122 + 800) (outG p x M) ∗ slotFree (F := F) c 2)
            ∗ (resP (F := F) c (800 * 121) (800 * 121 + 800) (outG p x M) ∗ slotFree (F := F) c 1)
            ∗ owesAny (F := F) c) -∗ Q ⟨⟩))
      ⊢ wp frame (wpE (defs₀ (F := F)) Variants.none c none) Set.univ (bodyD t (k0_pay1 p)) Q := by
  unfold bodyD
  rw [if_pos ((cond4_iff t).2 h), k0_part3_eq_skeleton, k0_part4_eq_skeleton, k0_part5_eq_skeleton, k0_part6_eq_skeleton]
  unfold k0_part3_skel k0_part4_skel k0_part5_skel k0_part6_skel
  simp only [bind_assoc, pure_bind, lift_bind, op_bind]
  iintro ⟨⟨HB, Hx, HR, HF, B3, B2, B1, HW⟩, Hk⟩
  unfold slotFree cells
  icases HF with ⟨⟨%e, HS⟩, ⟨C0, C1⟩, C2, C3⟩
  ihave HR := (res_bands c 124 f).1 $$ HR
  icases HR with ⟨⟨R0, R1⟩, R2, R3⟩
  iapply (load_whole c (st0_2 t) fullShare (memRows 800 M 99200) ![0, 0] inb_S800x128_S800x128_0_0) $$ HB
  iintro HB
  iapply (load_whole c xbfM fullShare (k0_pay2 x) ![0, 0] inb_S4096x128_S4096x128_0_0) $$ Hx
  iintro Hx
  iapply (load_slot c (sl 124).val 800 0 _ _ rfl e) $$ HS
  iintro %v HS
  iapply (store_slot (outG p x M) c 124 (sl 124).val 800 0 _ _ rfl _ (last_at p x M) e) $$ HS
  iintro HS
  ihave HS := (slot_bands c (sl 124).val (slotV (outG p x M) 124)).1 $$ HS
  icases HS with ⟨⟨S0, S1⟩, S2, S3⟩
  iapply (start_step (outG p x M) c 124 (by omega) 0 _ _ rfl _ _ rfl _ _ rfl f) $$ [S0 R0 C0]
  · isplitl [S0]; · iexact S0
    isplitl [R0] <;> iassumption
  iintro F0
  iapply (start_step (outG p x M) c 124 (by omega) 1 _ _ rfl _ _ rfl _ _ rfl f) $$ [S1 R1 C1]
  · isplitl [S1]; · iexact S1
    isplitl [R1] <;> iassumption
  iintro F1
  iapply (start_step (outG p x M) c 124 (by omega) 2 _ _ rfl _ _ rfl _ _ rfl f) $$ [S2 R2 C2]
  · isplitl [S2]; · iexact S2
    isplitl [R2] <;> iassumption
  iintro F2
  iapply (start_step (outG p x M) c 124 (by omega) 3 _ _ rfl _ _ rfl _ _ rfl f) $$ [S3 R3 C3]
  · isplitl [S3]; · iexact S3
    isplitl [R3] <;> iassumption
  iintro F3
  ihave B4 : blockOut (outG p x M) c 124 $$ [F0 F1 F2 F3]
  · unfold blockOut
    isplitl [F0 F1]
    · isplitl [F0] <;> iassumption
    isplitl [F2] <;> iassumption
  iapply (wait_block (outG p x M) c 124 0 rfl _ _ rfl _ _ rfl _ _ rfl _ _ rfl) $$ [B4 HW]
  · isplitl [B4] <;> iassumption
  iintro ⟨D0, HW⟩
  iapply (wait_block (outG p x M) c 123 3 rfl _ _ rfl _ _ rfl _ _ rfl _ _ rfl) $$ [B3 HW]
  · isplitl [B3] <;> iassumption
  iintro ⟨D3, HW⟩
  iapply (wait_block (outG p x M) c 122 2 rfl _ _ rfl _ _ rfl _ _ rfl _ _ rfl) $$ [B2 HW]
  · isplitl [B2] <;> iassumption
  iintro ⟨D2, HW⟩
  iapply (wait_block (outG p x M) c 121 1 rfl _ _ rfl _ _ rfl _ _ rfl _ _ rfl) $$ [B1 HW]
  · isplitl [B1] <;> iassumption
  iintro ⟨D1, HW⟩
  rw [wp_ret]
  imodintro
  iapply Hk
  unfold slotFree cells
  isplitl [HB]; · iexact HB
  isplitl [Hx]; · iexact Hx
  isplitl [D0]; · iexact D0
  isplitl [D3]; · iexact D3
  isplitl [D2]; · iexact D2
  isplitl [D1] <;> iassumption

/-- Below the last point nothing runs here. -/
theorem runD_skip (c : Dev nD) (t : Fin cfg0.N) (h : t.val ≠ 124) (v : F .f32) (Q : PUnit → sProp 𝕄) :
    Q ⟨⟩ ⊢ wp frame (wpE (defs₀ (F := F)) Variants.none c none) Set.univ (bodyD t v) Q := by
  unfold bodyD
  rw [if_neg (fun h' => h ((cond4_iff t).1 h')), wp_pure]
  iintro H
  imodintro
  iexact H

end Cert.KernelIdeal.Hand

end
-- ==== Proof.Blocks.lean ====
/-
  What the windows' buffers hold at each point: the temperature, the queries, and 800 rows of the memory bank.
-/
module

public import proofs.«01_k».proof.Proof.Runs
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix2 ix3)

variable {F : FTy → Type} [FloatOps F]

variable (m : (ℓ : Loc nD τ sig) → Buf (Elt F) ℓ)

/-- The parameters' array as launched. -/
abbrev parArr (c : Dev nD) : S2.Idx → Elt F .f32 := m ((c.tc : Thread nD τ).loc main_arg3)
/-- The queries' array as launched. -/
abbrev queryArr (c : Dev nD) : S4096x128.Idx → Elt F .f32 := m ((c.tc : Thread nD τ).loc main_arg0)
/-- The memory bank as launched. -/
abbrev bankArr (c : Dev nD) : S100000x128.Idx → Elt F .f32 := m ((c.tc : Thread nD τ).loc main_arg2)
/-- The temperature: the parameters' first word. -/
abbrev temp (c : Dev nD) : Elt F .f32 := parArr m c (ValueIdx.ix1 (0 : Fin 2))

/-- The parameters' window stays at its one block. -/
theorem index0 : ∀ t : Fin grid0.N, win0_0.index t = ![0] := by decide +kernel
/-- The queries' window stays at its one block. -/
theorem index1 : ∀ t : Fin grid0.N, win0_1.index t = ![0, 0] := by decide +kernel
/-- At point `t` the memory bank's window is at block `t`. -/
theorem index2 : ∀ t : Fin grid0.N, win0_2.index t = ![t.val, 0] := by decide +kernel

/-- The parameters' block is the parameters. -/
theorem block0 (c : Dev nD) (t : Fin cfg0.N) : (iblk m c 0 t : S2.Idx → Elt F .f32) = parArr m c := by
  funext y
  blk_ext [iblk, V, index0 t]

/-- The queries' block is the queries. -/
theorem block1 (c : Dev nD) (t : Fin cfg0.N) : (iblk m c 1 t : S4096x128.Idx → Elt F .f32) = queryArr m c := by
  funext y
  blk_ext [iblk, V, index1 t]

/-- The memory block at point `t` is the bank's 800 rows from row `800 t` on. -/
theorem block2 (c : Dev nD) (t : Fin cfg0.N) :
    (iblk m c 2 t : S800x128.Idx → Elt F .f32) = memRows 800 (bankArr m c) (800 * t.val) := by
  funext y
  have ht : t.val < 125 := lt_of_lt_of_eq t.isLt N_0
  have hy : (y 0).val < 800 := (y 0).isLt
  unfold memRows
  blk_ext [iblk, V, index2 t, Fin.ofNat]

end Cert.KernelIdeal.Hand

end
-- ==== Proof.Point.lean ====
/-
  The state between points, and one point's step from it to the next.
-/
module

public import proofs.«01_k».proof.Proof.RunD
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-! ## The state between points -/

/-- The slot that block `v` will use, just before it: free for the first four blocks, after that with block
    `v - 4`'s copies under way. -/
def place (G : S100000x4096.Idx → Elt F .f32) (c : Dev nD) (v : ℕ) : sProp 𝕄 :=
  if v < 4 then slotFree c (sl v) else blockOut G c (v - 4)

/-- The queries' working copy: at anything before the first point, then at the queries' narrowed values. -/
def xbfAt (x : S4096x128.Idx → Elt F .f32) (c : Dev nD) (k : ℕ) : sProp 𝕄 :=
  iprop(∃ y, ⌜k ≠ 0 → y = k0_pay2 x⌝ ∗ xbfP (F := F) c y)

/-- Before point `k`: the rows not yet started as launched, the rows arrived at the result, and each slot's state. -/
def between (f G : S100000x4096.Idx → Elt F .f32) (x : S4096x128.Idx → Elt F .f32) (c : Dev nD) (k : ℕ) : sProp 𝕄 :=
  iprop(resP (F := F) c (800 * k) 100000 f ∗ resP (F := F) c 0 (800 * (k - 4)) G
    ∗ (place G c k ∗ place G c (k + 1) ∗ place G c (k + 2) ∗ place G c (k + 3)) ∗ xbfAt x c k)

/-- After the last point: every row arrived, every slot free. -/
def finished (G : S100000x4096.Idx → Elt F .f32) (x : S4096x128.Idx → Elt F .f32) (c : Dev nD) : sProp 𝕄 :=
  iprop(resP (F := F) c 0 100000 G ∗ (slotFree (F := F) c 0 ∗ slotFree (F := F) c 1 ∗ slotFree (F := F) c 2 ∗ slotFree (F := F) c 3)
    ∗ xbfAt x c 125)

/-- The state before point `k`, or after the last. -/
def stateAt (f G : S100000x4096.Idx → Elt F .f32) (x : S4096x128.Idx → Elt F .f32) (c : Dev nD) (k : ℕ) : sProp 𝕄 :=
  if k < 125 then between f G x c k else finished G x c

/-! ## The temperature's load -/

/-- Loading the temperature reads the first parameter. -/
theorem runT (c : Dev nD) (t : Fin cfg0.N) (X : S2.Idx → Elt F .f32) (Q : Elt F .f32 → sProp 𝕄) :
    iprop(owns (c : Thread nD τ) (st0_0 t) fullShare X
        ∗ (owns (c : Thread nD τ) (st0_0 t) fullShare X -∗ Q (X (ValueIdx.ix1 (0 : Fin 2)))))
      ⊢ wp frame (wpE (defs₀ (F := F)) Variants.none c none) Set.univ
          (smemLoad (win0_0.stage (cfg0.slots t 0)) (Rect.unit (s := S2) ![0] S1.size inb_S2_S1_0) numel1_S1 rfl) Q := by
  unfold smemLoad smemLoadElt
  iintro ⟨H, Hk⟩
  iapply (load_step c (st0_0 t) fullShare X) $$ H
  iintro H
  rw [wp_ret]
  imodintro
  have e : (Rect.unit (s := S2) ![0] S1.size inb_S2_S1_0).toLoadRect.idx
      (Shape.Idx.first (numel1_S1.symm ▸ Nat.one_pos)) = ValueIdx.ix1 (0 : Fin 2) := by
    decide
  beta_reduce
  rw [e]
  iapply Hk
  iexact H

/-! ## One point's step -/

/-- The waits' region, at any point: the point's slot comes free, with four blocks' lag behind it arrived. -/
theorem stepB (G : S100000x4096.Idx → Elt F .f32) (c : Dev nD) (t : Fin cfg0.N) (Q : PUnit → sProp 𝕄) :
    iprop((place G c t.val ∗ resP (F := F) c 0 (800 * (t.val - 4)) G ∗ owesAny (F := F) c)
        ∗ (iprop(slotFree (F := F) c (sl t.val) ∗ resP (F := F) c 0 (800 * (t.val + 1 - 4)) G ∗ owesAny (F := F) c) -∗ Q ⟨⟩))
      ⊢ wp frame (wpE (defs₀ (F := F)) Variants.none c none) Set.univ (bodyB t) Q := by
  unfold place
  by_cases h : t.val < 4
  · rw [if_pos h, show t.val - 4 = 0 by omega, show t.val + 1 - 4 = 0 by omega]
    iintro ⟨H, Hk⟩
    iapply (runB_skip c t h Q)
    iapply Hk
    iexact H
  · rw [if_neg h, show t.val + 1 - 4 = t.val - 4 + 1 by omega, show 800 * (t.val - 4 + 1) = 800 * (t.val - 4) + 800 by omega]
    iintro ⟨⟨HF, HR, HW⟩, Hk⟩
    iapply (runB G c t (by omega) Q)
    isplitl [HF HW]
    · isplitl [HF] <;> iassumption
    iintro ⟨⟨HR', HS⟩, HW⟩
    iapply Hk
    isplitl [HS]; · iexact HS
    isplitl [HR HR']
    · iapply (resP_split c (lo := 0) (mid := 800 * (t.val - 4)) (hi := 800 * (t.val - 4) + 800) (by omega) (by omega) G).2
      isplitl [HR] <;> iassumption
    iexact HW

/-- Four points after block `u` its slot's place is its four copies under way. -/
theorem place_next (G : S100000x4096.Idx → Elt F .f32) (c : Dev nD) (u : ℕ) : place (F := F) G c (u + 4) = blockOut G c u := by
  unfold place
  rw [if_neg (by omega), Nat.add_sub_cancel]

/-- A point's step: the windows' buffers keep what they hold, and the state moves on. -/
theorem step (c : Dev nD) (t : Fin cfg0.N) (X : S2.Idx → Elt F .f32) (x : S4096x128.Idx → Elt F .f32)
    (M : S100000x128.Idx → Elt F .f32) (f : S100000x4096.Idx → Elt F .f32) (Q : PUnit → sProp 𝕄) :
    iprop((owns (c : Thread nD τ) (st0_0 t) fullShare X ∗ owns (c : Thread nD τ) (st0_1 t) fullShare x
          ∗ owns (c : Thread nD τ) (st0_2 t) fullShare (memRows 800 M (800 * t.val))
          ∗ stateAt f (outG (X (ValueIdx.ix1 (0 : Fin 2))) x M) x c t.val ∗ owesAny (F := F) c)
        ∗ (iprop(owns (c : Thread nD τ) (st0_0 t) fullShare X ∗ owns (c : Thread nD τ) (st0_1 t) fullShare x
          ∗ owns (c : Thread nD τ) (st0_2 t) fullShare (memRows 800 M (800 * t.val))
          ∗ stateAt f (outG (X (ValueIdx.ix1 (0 : Fin 2))) x M) x c (t.val + 1) ∗ owesAny (F := F) c) -∗ Q ⟨⟩))
      ⊢ wp frame (wpE (defs₀ (F := F)) Variants.none c none) Set.univ (bodyAt0 t) Q := by
  have ht : t.val < 125 := lt_of_lt_of_eq t.isLt N_0
  rw [body_eq, wp_bind]
  unfold stateAt
  rw [if_pos ht]
  unfold between
  iintro ⟨⟨H0, H1, H2, ⟨Hf, HG, ⟨P0, P1, P2, P3⟩, Hx⟩, HW⟩, Hk⟩
  iapply (runT c t X _)
  isplitl [H0]; · iexact H0
  iintro H0
  generalize hp : X (ValueIdx.ix1 (0 : Fin 2)) = p
  rw [wp_bind]
  iapply (runA c t x _)
  isplitl [H1]; · iexact H1
  isplitl [Hx]
  · unfold xbfAt
    iexact Hx
  iintro ⟨H1, Hx⟩
  rw [wp_bind]
  iapply (stepB (outG p x M) c t _)
  isplitl [P0 HG HW]
  · isplitl [P0]; · iexact P0
    isplitl [HG] <;> iassumption
  iintro ⟨HS, HG, HW⟩
  rw [wp_bind]
  by_cases h : t.val < 124
  · rw [if_pos (show t.val + 1 < 125 by omega)]
    ihave Hf := (resP_split c (lo := 800 * t.val) (mid := 800 * t.val + 800) (hi := 100000) (by omega) (by omega) f).1 $$ Hf
    icases Hf with ⟨Hb, Hf⟩
    iapply (runC c t h p x M f _)
    isplitl [H2 Hx Hb HS]
    · isplitl [H2]; · iexact H2
      isplitl [Hx]; · iexact Hx
      isplitl [Hb] <;> iassumption
    iintro ⟨H2, Hx, HB⟩
    iapply (runD_skip c t (by omega) _ _)
    iapply Hk
    isplitl [H0]; · iexact H0
    isplitl [H1]; · iexact H1
    isplitl [H2]; · iexact H2
    isplitr [HW]
    · isplitl [Hf]; · rw [show 800 * (t.val + 1) = 800 * t.val + 800 by omega]; iexact Hf
      isplitl [HG]; · iexact HG
      isplitr [Hx]
      · rw [show t.val + 1 + 1 = t.val + 2 by omega, show t.val + 1 + 2 = t.val + 3 by omega,
          show t.val + 1 + 3 = t.val + 4 by omega, place_next]
        isplitl [P1]; · iexact P1
        isplitl [P2]; · iexact P2
        isplitl [P3] <;> iassumption
      · unfold xbfAt
        iexists (k0_pay2 x)
        isplitr; · ipureintro; exact fun _ => rfl
        iexact Hx
    iexact HW
  · have h4 : t.val = 124 := by omega
    have p1 : place (outG p x M) c (124 + 1) ⊢ blockOut (outG p x M) c 121 := .of_eq (place_next (outG p x M) c 121)
    have p2 : place (outG p x M) c (124 + 2) ⊢ blockOut (outG p x M) c 122 := .of_eq (place_next (outG p x M) c 122)
    have p3 : place (outG p x M) c (124 + 3) ⊢ blockOut (outG p x M) c 123 := .of_eq (place_next (outG p x M) c 123)
    rw [h4, if_neg (show ¬ 124 + 1 < 125 by omega)]
    ihave P1 := p1 $$ P1
    ihave P2 := p2 $$ P2
    ihave P3 := p3 $$ P3
    iapply (runC_skip c t h _ _)
    iapply (runD c t h4 p x M f _)
    isplitl [H2 Hx Hf HS P1 P2 P3 HW]
    · isplitl [H2]; · iexact H2
      isplitl [Hx]; · iexact Hx
      isplitl [Hf]; · iexact Hf
      isplitl [HS]; · iexact HS
      isplitl [P3]; · iexact P3
      isplitl [P2]; · iexact P2
      isplitl [P1]; · iexact P1
      iexact HW
    iintro ⟨H2, Hx, ⟨R0, S0⟩, ⟨R3, S3⟩, ⟨R2, S2⟩, ⟨R1, S1⟩, HW⟩
    iapply Hk
    isplitl [H0]; · iexact H0
    isplitl [H1]; · iexact H1
    isplitl [H2]; · iexact H2
    isplitr [HW]
    · unfold finished
      isplitl [HG R0 R1 R2 R3]
      · iapply (resP_split c (lo := 0) (mid := 99200) (hi := 100000) (by omega) (by omega) (outG p x M)).2
        isplitr [R0]
        · iapply (resP_split c (lo := 0) (mid := 98400) (hi := 99200) (by omega) (by omega) (outG p x M)).2
          isplitr [R3]
          · iapply (resP_split c (lo := 0) (mid := 97600) (hi := 98400) (by omega) (by omega) (outG p x M)).2
            isplitr [R2]
            · iapply (resP_split c (lo := 0) (mid := 96800) (hi := 97600) (by omega) (by omega) (outG p x M)).2
              isplitl [HG] <;> iassumption
            iexact R2
          iexact R3
        iexact R0
      isplitr [Hx]
      · isplitl [S0]; · iexact S0
        isplitl [S1]; · iexact S1
        isplitl [S2] <;> iassumption
      · unfold xbfAt
        iexists (k0_pay2 x)
        isplitr; · ipureintro; exact fun _ => rfl
        iexact Hx
    iexact HW

end Cert.KernelIdeal.Hand

end
-- ==== Proof.Launch.lean ====
/-
  The kernel's run from any memory: the pipeline's launch with the state between points as its invariant.
-/
module

public import proofs.«01_k».proof.Proof.Point
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own semaphores and the array it writes -/

/-- The body's sixteen transfer semaphores. -/
def osem0 : Fin 16 → SemLoc sig := fun j => SemLoc.dma ⟨4 + j.val, by have := j.isLt; show 4 + j.val < 20; omega⟩

/-- The kernel's own semaphores are apart from the pipeline's. -/
theorem ownSemFacts0 : Pipeline.OwnSemFacts spec0 osem0 := by decide

/-- The kernel's own semaphores at rest, slot by slot. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 0 2 ∗ cellP c 0 3 ∗ cellP c 1 0 ∗ cellP c 1 1 ∗ cellP c 1 2 ∗ cellP c 1 3
        ∗ cellP c 2 0 ∗ cellP c 2 1 ∗ cellP c 2 2 ∗ cellP c 2 3 ∗ cellP c 3 0 ∗ cellP c 3 1 ∗ cellP c 3 2 ∗ cellP c 3 3) := by
  rw [Pipeline.ownSems0_eq_of_list c osem0 [0, 1, 2, 3, 4, 5, 6, 7, 8, 9, 10, 11, 12, 13, 14, 15] (by decide) (by decide)]; rfl

/-- The result's array, the one the body writes by its own copies. -/
def R0 : Finset (Ref sig .tc) := {main_v0}
/-- No buffer is left out. -/
theorem H0_sub : (∅ : Finset (Ref sig .tc)) ⊆ Pipeline.restRefs sig spec0 := by decide
/-- The result is none of the pipeline's arrays. -/
theorem R0_sub : R0 ⊆ Pipeline.restRefs sig spec0 \ ∅ := by decide

/-- Holding the result's buffer is holding its rows from 0 to 100000. -/
theorem resPts_eq (c : Dev nD) (W : (b : Ref sig .tc) → Buf (Elt F) ((c.tc : Thread nD τ).loc b)) :
    (bigSep R0 fun b => (((c.tc : Thread nD τ).loc b) ↦{fullShare} W b : sProp 𝕄)) = resP (F := F) c 0 100000 (W main_v0) := by
  rw [BI.bigSep_eq_bigSepL_of_eq [main_v0] (by decide) (by decide)]
  unfold resP
  rw [resRows_univ]
  rfl

/-! ## The proof data -/

/-- The result's array as launched. -/
abbrev resArr (c : Dev nD) : S100000x4096.Idx → Elt F .f32 := m ((c.tc : Thread nD τ).loc main_v0)

/-- What the result's array ends with. -/
abbrev resOut (c : Dev nD) : S100000x4096.Idx → Elt F .f32 := outG (temp m c) (queryArr m c) (bankArr m c)

/-- The pipeline's data: the arrays as launched, each input's buffer at its block, the state between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := stateAt (resArr m c) (resOut m c) (queryArr m c) c t.val
  q _ := fullShare
  owed _ := 0

/-- Each window's array enters the pipeline as launched. -/
theorem A_eq (c : Dev nD) (w : Fin cfg0.W) : (dats m 0 c).A w = V m c (Pipeline.arrRef spec0 w) := by
  dsimp only [dats]

/-- The body leaves the parameters' window as staged. -/
theorem after0_0 (c : Dev nD) (t : Fin cfg0.N) : (dats m 0 c).after 0 t = iblk m c 0 t := by dsimp only [dats]
/-- The body leaves the queries' window as staged. -/
theorem after0_1 (c : Dev nD) (t : Fin cfg0.N) : (dats m 0 c).after 1 t = iblk m c 1 t := by dsimp only [dats]
/-- The body leaves the memory bank's window as staged. -/
theorem after0_2 (c : Dev nD) (t : Fin cfg0.N) : (dats m 0 c).after 2 t = iblk m c 2 t := by dsimp only [dats]

/-- Each window's buffer holds its block when the body starts. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]) t d).trans
    (by unfold Dat.fetched Dat.blockOf iblk; rw [A_eq]; rfl)
/-- The body finds the queries in their window. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]) t d).trans
    (by unfold Dat.fetched Dat.blockOf iblk; rw [A_eq]; rfl)
/-- The body finds the point's block of the bank in its window. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]) t d).trans
    (by unfold Dat.fetched Dat.blockOf iblk; rw [A_eq]; rfl)

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point, from the step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [after0_0, after0_1, after0_2, show (dats m 0 c).Φ t.castSucc = stateAt (resArr m c) (resOut m c) (queryArr m c) c t.val from rfl,
    show (dats m 0 c).Φ t.succ = stateAt (resArr m c) (resOut m c) (queryArr m c) c (t.val + 1) from rfl]
  unfold Dat.owesAt Pipeline.owesWithin
  rw [show (dats m 0 c).owed t.castSucc = 0 from rfl, show (dats m 0 c).owed t.succ = 0 from rfl,
    show iblk m c 0 t = parArr m c from block0 m c t, show iblk m c 1 t = queryArr m c from block1 m c t,
    show iblk m c 2 t = memRows 800 (bankArr m c) (800 * t.val) from block2 m c t]
  iintro ⟨HΦ, ⟨%W, -, HW⟩, ⟨%d0, H0⟩, ⟨%d1, H1⟩, ⟨%d2, H2⟩⟩
  iapply (step c t (parArr m c) (queryArr m c) (bankArr m c) (resArr m c) _)
  isplitl [HΦ HW H0 H1 H2]
  · isplitl [H0]; · iexact H0
    isplitl [H1]; · iexact H1
    isplitl [H2]; · iexact H2
    isplitl [HΦ]; · iexact HΦ
    unfold owesAny
    iexists W
    iexact HW
  unfold owesAny
  iintro ⟨H0, H1, H2, HΦ, ⟨%W', HW'⟩⟩
  isplitl [HΦ]; · iexact HΦ
  isplitl [HW']
  · iexists W'; isplitr; · ipureintro; exact fun _ _ => Or.inl trivial
    iexact HW'
  isplitl [H0]; · iexact H0
  isplitl [H1] <;> iassumption

/-- The table's body at a point is the kernel's body there. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the state before the first point, and out of the state after the last -/

/-- Each core's buffers after the region, of which only the result's array is named. -/
def outV (c : Dev nD) (b : Ref sig .tc) : Buf (Elt F) ((c.tc : Thread nD τ).loc b) :=
  if h : b = main_v0 then h ▸ resOut m c else V m c b

/-- The result's buffer ends at the kernel's result. -/
theorem outV_res (c : Dev nD) : outV m c main_v0 = resOut m c := by
  unfold outV; rw [dif_pos rfl]

/-- A slot's rows at any contents and its four semaphores at rest make it free. -/
theorem slotFree_intro (c : Dev nD) (g : Fin 4) (e : S4x800x4096.Idx → Elt F .f32) :
    iprop(slotP (F := F) c g.val 0 800 e ∗ cellP (F := F) c g 0 ∗ cellP (F := F) c g 1 ∗ cellP (F := F) c g 2 ∗ cellP (F := F) c g 3)
      ⊢ slotFree (F := F) c g := by
  unfold slotFree cells
  iintro ⟨S, C0, C1, C2, C3⟩
  isplitl [S]; · iexists e; iexact S
  isplitl [C0 C1]
  · isplitl [C0] <;> iassumption
  isplitl [C2] <;> iassumption

/-- What the launch hands over is what holds before point 0. -/
theorem hin (c : Dev nD) : Pipeline.ΦDRV osem0 spec0 ∅ R0 (V m) (V m) c ⊢ (dats m 0 c).Φ 0 := by
  rw [show (dats m 0 c).Φ 0 = stateAt (resArr m c) (resOut m c) (queryArr m c) c 0 from rfl]
  unfold Pipeline.ΦDRV stateAt
  rw [if_pos (by decide), scopedRest0_eq, ownSems00_eq, resPts_eq]
  unfold between place xbfAt
  rw [if_pos (by decide), if_pos (by decide), if_pos (by decide), if_pos (by decide)]
  rw [show 800 * (0 - 4) = 0 from rfl, resP_empty]
  iintro ⟨⟨⟨%e, HS⟩, ⟨%y, HX⟩⟩, ⟨C00, C01, C02, C03, C10, C11, C12, C13, C20, C21, C22, C23, C30, C31, C32, C33⟩, -, HR⟩
  ihave HS := (ring_split c e).1 $$ HS
  icases HS with ⟨S0, S1, S2, S3⟩
  isplitl [HR]; · iexact HR
  isplitr; · iempintro
  isplitr [HX]
  · isplitl [S0 C00 C01 C02 C03]
    · iapply (slotFree_intro c 0 e)
      isplitl [S0]; · iexact S0
      isplitl [C00]; · iexact C00
      isplitl [C01]; · iexact C01
      isplitl [C02] <;> iassumption
    isplitl [S1 C10 C11 C12 C13]
    · iapply (slotFree_intro c 1 e)
      isplitl [S1]; · iexact S1
      isplitl [C10]; · iexact C10
      isplitl [C11]; · iexact C11
      isplitl [C12] <;> iassumption
    isplitl [S2 C20 C21 C22 C23]
    · iapply (slotFree_intro c 2 e)
      isplitl [S2]; · iexact S2
      isplitl [C20]; · iexact C20
      isplitl [C21]; · iexact C21
      isplitl [C22] <;> iassumption
    iapply (slotFree_intro c 3 e)
    isplitl [S3]; · iexact S3
    isplitl [C30]; · iexact C30
    isplitl [C31]; · iexact C31
    isplitl [C32] <;> iassumption
  · iexists y
    isplitr; · ipureintro; exact fun h => absurd rfl h
    unfold xbfP
    rw [owns_whole]
    iexact HX

/-- What holds after the last point is what the launch takes back. -/
theorem hout (c : Dev nD) : (dats m 0 c).Φ (Fin.last cfg0.N) ⊢ Pipeline.ΦDRV osem0 spec0 ∅ R0 (V m) (outV m) c := by
  rw [show (dats m 0 c).Φ (Fin.last cfg0.N) = stateAt (resArr m c) (resOut m c) (queryArr m c) c grid0.N from rfl, N_0]
  unfold Pipeline.ΦDRV stateAt
  rw [if_neg (by decide), scopedRest0_eq, ownSems00_eq, resPts_eq, outV_res]
  unfold finished xbfAt slotFree cells
  iintro ⟨HR, ⟨⟨⟨%e0, S0⟩, ⟨C00, C01⟩, C02, C03⟩, ⟨⟨%e1, S1⟩, ⟨C10, C11⟩, C12, C13⟩, ⟨⟨%e2, S2⟩, ⟨C20, C21⟩, C22, C23⟩, ⟨⟨%e3, S3⟩, ⟨C30, C31⟩, C32, C33⟩⟩, ⟨%y, -, HX⟩⟩
  isplitl [S0 S1 S2 S3 HX]
  · isplitl [S0 S1 S2 S3]
    · iapply (ring_join c e0 e1 e2 e3)
      isplitl [S0]; · iexact S0
      isplitl [S1]; · iexact S1
      isplitl [S2]; · iexact S2
      iexact S3
    · have hx : xbfP (F := F) c y ⊢ (((c : Thread nD τ).loc cc0_scratch1) ↦{fullShare} y : sProp 𝕄) := by
        unfold xbfP
        rw [owns_whole]
      ihave HX := hx $$ HX
      iexists y
      iexact HX
  isplitr [HR]
  · isplitl [C00]; · iexact C00
    isplitl [C01]; · iexact C01
    isplitl [C02]; · iexact C02
    isplitl [C03]; · iexact C03
    isplitl [C10]; · iexact C10
    isplitl [C11]; · iexact C11
    isplitl [C12]; · iexact C12
    isplitl [C13]; · iexact C13
    isplitl [C20]; · iexact C20
    isplitl [C21]; · iexact C21
    isplitl [C22]; · iexact C22
    isplitl [C23]; · iexact C23
    isplitl [C30]; · iexact C30
    isplitl [C31]; · iexact C31
    isplitl [C32] <;> iassumption
  isplitr; · iempintro
  iexact HR

/-! ## The run -/

set_option maxHeartbeats 800000 in
/-- The program is the pipeline followed by the host's transposition. -/
theorem hmainD : Pipeline.HMainK (Ix := Unit) (Name := ℕ) (U := Pipeline.UD sig nD τ) (Lvl := ℕ) cfgs 0 defs₀ Variants.none m (main (F := F))
      (V m) (fun _ => Pipeline.chain ([hostOps1].map StableHlo.seq)) :=
  Pipeline.hmain_around cfgs 0 defs₀ Variants.none m main [] [hostOps1] (by simp only [List.Forall])
    (by simp only [List.Forall]) main_chain

/-- What a run ends with: every array of the pipeline at the pipeline's account, every other buffer at the host
    operations' account of the region's exit, and every semaphore at rest. -/
def EndsAt (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after [hostOps1].flatten (Pipeline.withArrays spec0 c (Pipeline.withR (V0 m c) R0 c (outV m c))
            fun w => (dats m 0 c).arrAt w cfg0.N) (Proc.devRef .tc b))
  ∧ r.2.sem = fun _ => 0

set_option backward.isDefEq.respectTransparency.types false in
/-- The run from any memory with every semaphore at rest. -/
theorem run_main : θ_run defs (onTc (τ := τ) (main (F := F))) (s₀ m ρ) (EndsAt m) :=
  Pipeline.θ_run_frame_dmaR_aroundV (Q' := _) cfgs (dats m) (0 : Fin 1) launch0 osem0 defs₀ Variants.none ownSemFacts0 ∅ R0 H0_sub R0_sub
    m ρ main (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := outV m) (hmain := hmainD m) (hA := A_eq m) (hin := hin m) (hout := hout m) (hQ' := fun _ h => h)

end Cert.KernelIdeal.Hand

end
-- ==== Proof.Result.lean ====
/-
  The kernel's frame and the value its run ends with.
-/
module

public import proofs.«01_k».proof.Proof.Launch
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- What the host's result ends with: the kernel's array transposed. -/
abbrev hostOut (c : Dev nD) : S4096x100000.Idx → Elt F .f32 :=
  transpose S4096x100000 [1, 0] (resOut m c) transposes_S100000x4096_S4096x100000_1_0

/-- The host line leaves everything but its own result as it was. -/
theorem after_ne (W : Valuation τ sig (Elt F)) (b : Ref sig .tc) (h : b ≠ main_v1) :
    StableHlo.after ([hostOps1].flatten : List (HloOp τ sig (Elt F))) W (Proc.devRef .tc b) = W (Proc.devRef .tc b) := by
  simp only [hostOps1, List.flatten_cons, List.flatten_nil, List.append_nil, StableHlo.after_cons, StableHlo.after_nil]
  exact StableHlo.unary_result_ne _ _ _ _ _ W h

/-- And its own result it leaves at the transposed array. -/
theorem after_eq (W : Valuation τ sig (Elt F)) :
    StableHlo.after ([hostOps1].flatten : List (HloOp τ sig (Elt F))) W (Proc.devRef .tc main_v1)
      = transpose S4096x100000 [1, 0] (W (Proc.devRef .tc main_v0)) transposes_S100000x4096_S4096x100000_1_0 := by
  simp only [hostOps1, List.flatten_cons, List.flatten_nil, List.append_nil, StableHlo.after_cons, StableHlo.after_nil]
  exact StableHlo.unary_result' _ _ _ _

/-- The run's result, every argument as launched, and every semaphore at rest. -/
theorem ends (r : PUnit × MemSt nD τ sig (Elt F)) (h : EndsAt m r) :
    (∀ c : Dev nD, r.2.mem ((c.tc : Thread nD τ).loc main_v1) = hostOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  refine ⟨fun c => ⟨?_, ?_, ?_, ?_, ?_⟩, h.2⟩
  · rw [(h.1 c).2 main_v1 (Pipeline.mem_restRefs_of main_v1 (by decide) (by decide)), after_eq,
      Pipeline.withArrays_of_ne _ c _ _ main_v0 (by exact (by decide : ∀ w, Pipeline.arrRef spec0 w ≠ main_v0)),
      Pipeline.withR_of_mem _ _ _ _ main_v0 (by decide), outV_res]
  · exact ((h.1 c).1 1).trans (((dats m 0 c).arrAt_in 1 rfl _).trans ((A_eq m c 1).trans (V_main_arg0 m c)))
  · rw [(h.1 c).2 main_arg1 (Pipeline.mem_restRefs_of main_arg1 (by decide) (by decide)), after_ne _ _ (by decide),
      Pipeline.withArrays_of_ne _ c _ _ main_arg1 (by exact (by decide : ∀ w, Pipeline.arrRef spec0 w ≠ main_arg1)),
      Pipeline.withR_of_not_mem _ _ _ _ main_arg1 (by decide)]
    exact V_main_arg1 m c
  · exact ((h.1 c).1 2).trans (((dats m 0 c).arrAt_in 2 rfl _).trans ((A_eq m c 2).trans (V_main_arg2 m c)))
  · exact ((h.1 c).1 0).trans (((dats m 0 c).arrAt_in 0 rfl _).trans ((A_eq m c 0).trans (V_main_arg3 m c)))

/-- From any memory with every semaphore at rest, the program runs, ends with its result at `hostOut`, leaves its
    arguments as launched, and leaves every semaphore at rest. -/
theorem run_ends : θ_run defs (onTc (τ := τ) (main (F := F))) ⟨m, fun _ => 0, ρ⟩ (fun r =>
    (∀ c : Dev nD, r.2.mem ((c.tc : Thread nD τ).loc main_v1) = hostOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (ends m) (run_main m ρ)

/-- The frame: the arguments as launched, and every semaphore at rest. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_ends m ρ)

end Cert.KernelIdeal.Hand

end
-- ==== Proof.Same.lean ====
/-
  The program over bit words and the program over the extended reals are one program over two float types: what is
  proved of the second at every float type is proved of the first.
-/
module

public import proofs.«01_k».proof.Proof.Result
public import proofs.«01_k».proof.Proof.Gen.Kernel

@[expose] public section

set_option maxRecDepth 16384

noncomputable section

namespace Cert.Kernel.Hand

open Idealize.ShloMosaic Idealize.ShloMosaic.TcCoe
open Idealize.SL.Sem

variable {F : FTy → Type} [FloatOps F]

/-- The kernel's body is the same at every grid point. -/
theorem body_same : @Cert.Kernel.cc0__body F _ Cert.Kernel.Gen.facts = @Cert.KernelIdeal.cc0__body F _ Cert.KernelIdeal.Gen.facts :=
  rfl

/-- The tables of bodies are the same. -/
theorem table_same : Cert.Kernel.defs₀ (F := F) = Cert.KernelIdeal.defs₀ (F := F) := by
  funext pr l a
  match pr, l, a with
  | .tc, ⟨0, _⟩, (t, s) => exact congrFun (congrFun (congrFun (congrFun (congrFun (congrFun (congrFun (congrFun (congrFun
      (congrFun (congrFun (congrFun (congrFun (congrFun body_same _) _) _) _) _) _) _) _) _) _) _) _) _) _
  | .tc, ⟨n + 1, h⟩, _ => exact absurd h (Nat.not_lt.2 (Nat.le_add_left _ _))
  | .scScalar _, _, _ => rfl
  | .scVector _ _, _, _ => rfl

/-- With the pipeline around them too. -/
theorem defs_same : Cert.Kernel.defs (F := F) = Cert.KernelIdeal.defs (F := F) :=
  congrArg (Pipeline.defs (Cert.KernelIdeal.pcfgs (F := F))) table_same

/-- The frame of the program over bit words, or any float type: it runs, leaves its arguments as launched and every semaphore at rest. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
        ∧ r.2.sem = fun _ => 0) := by
  rw [defs_same]
  exact Cert.KernelIdeal.Hand.frame (F := F) m ρ

end Cert.Kernel.Hand

end
-- ==== Proof.Products.lean ====
/-
  Over the extended reals: what the kernel's array holds at every row and column.
-/
module

public import proofs.«01_k».proof.Proof.Values
public import Idealize.ShloMosaic.Lib.Pipeline.Value
public import Idealize.ShloMosaic.Lib.ValueLayout
public import Idealize.ShloMosaic.Lib.MatmulPlain
public import Idealize.ShloMosaic.Lib.IdealHost
public import Idealize.ShloMosaic.PureOps.Ideal.Laws

@[expose] public section

set_option maxRecDepth 16384

noncomputable section

namespace Cert.KernelIdeal.Hand

open Cert.KernelIdeal Cert.KernelIdeal.Gen
open Idealize.ShloMosaic
open Idealize.ShloMosaic.ValueIdx (ix2 ix3 shapeCast_ab_1ab_apply)

/-- The inner product of query `b` with row `r` of the memory bank. -/
def dot (x : S4096x128.Idx → EReal) (M : S100000x128.Idx → EReal) (b : Fin 4096) (r : Fin 100000) : EReal :=
  ∑ k : Fin 128, x (ix2 b k) * M (ix2 r k)

/-- The queries' working copy is the queries: over the extended reals a change of format is the identity. -/
theorem copy_eq (x : S4096x128.Idx → EReal) : k0_pay2 (F := Ideal) x = x := by
  unfold k0_pay2
  exact shapeCast_self _ _

/-- The inverse temperature is one over the temperature. -/
theorem inverse_eq (p : EReal) : k0_pay1 (F := Ideal) p = Ideal.div 1 p := by
  show Ideal.div (Ideal.ofBits .f32 0x3F800000#32) p = _
  rw [Ideal.ofBits_one_f32]

/-- `n` rows of the bank from row `s` on, against the queries: the product at row `a` and query `b` is the inner
    product of the query with the bank's row `s + a`. -/
theorem rows_dot (n : ℕ) (x : S4096x128.Idx → EReal) (M : S100000x128.Idx → EReal) (s : ℕ) (a : Fin n) (b : Fin 4096) :
    FloatOps.matmul (F := Ideal) (φ₁ := .bf16) (φ₂ := .bf16) (DotDims.transposedRhs n 128 4096) none (memRows (F := Ideal) n M s) x
      (constant ⟨2, ![n, 4096]⟩ .f32 0x00000000#32) (ix2 a b) = dot x M b (Fin.ofNat 100000 (s + a.val)) := by
  rw [Ideal.matmul_transposedRhs_apply]
  show Ideal.ofBits .f32 0x00000000#32 + _ = _
  rw [Ideal.ofBits_zero_f32, zero_add]
  exact Finset.sum_congr rfl fun k _ => mul_comm _ _

/-- Half a block at a row and a query: the inner product times the inverse temperature. -/
theorem half_apply (p : EReal) (x : S4096x128.Idx → EReal) (M : S100000x128.Idx → EReal) (q : ℕ) (a : Fin 400) (b : Fin 4096) :
    half (F := Ideal) p x M q (ix2 a b) = dot x M b (Fin.ofNat 100000 (400 * q + a.val)) * Ideal.div 1 p := by
  unfold half
  rw [copy_eq, inverse_eq]
  exact congrArg (· * Ideal.div 1 p) (rows_dot 400 x M (400 * q) a b)

/-- The last block at a row and a query, likewise. -/
theorem last_apply (p : EReal) (x : S4096x128.Idx → EReal) (M : S100000x128.Idx → EReal) (u : Fin 1) (a : Fin 800) (b : Fin 4096) :
    lastBlock (F := Ideal) p x M (ix3 u a b) = dot x M b (Fin.ofNat 100000 (99200 + a.val)) * Ideal.div 1 p := by
  unfold lastBlock
  rw [copy_eq, inverse_eq]
  unfold k0_pay6
  refine (shapeCast_ab_1ab_apply _ _ u a b).trans ?_
  exact congrArg (· * Ideal.div 1 p) (rows_dot 800 x M 99200 a b)

/-- The kernel's array at every row and query: the inner product times the inverse temperature. -/
theorem out_apply (p : EReal) (x : S4096x128.Idx → EReal) (M : S100000x128.Idx → EReal) (r : Fin 100000) (b : Fin 4096) :
    outG (F := Ideal) p x M (ix2 r b) = dot x M b r * Ideal.div 1 p := by
  have hr : r.val < 100000 := r.isLt
  show (if r.val < 99200 then half (F := Ideal) p x M (r.val / 400) (ix2 (Fin.ofNat 400 r.val) b)
    else lastBlock (F := Ideal) p x M (ix3 (0 : Fin 1) (Fin.ofNat 800 r.val) b)) = _
  split_ifs with h
  · rw [half_apply]
    congr 2
    refine Fin.ext ?_
    show (400 * (r.val / 400) + r.val % 400) % 100000 = r.val
    omega
  · rw [last_apply]
    congr 2
    refine Fin.ext ?_
    show (99200 + r.val % 800) % 100000 = r.val
    omega

end Cert.KernelIdeal.Hand

end
-- ==== Proof.Quotient.lean ====
/-
  Over the extended reals: what the reference computes at every query and row, and what its precondition says.
-/
module

public import proofs.«01_k».proof.Proof.Gen.ReferenceIdeal.Run
public import proofs.«01_k».proof.Pre_temperature_nonzero
public import Idealize.ShloMosaic.Lib.Pipeline.Value
public import Idealize.ShloMosaic.Lib.ValueLayout
public import Idealize.ShloMosaic.Lib.StackMember
public import Idealize.ShloMosaic.Lib.IdealHost
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic
open Idealize.ShloMosaic.ValueIdx (ix1 ix2 transpose_ix2_apply)

/-- The reference's result as its operations compose it. -/
def refOut (x : S4096x128.Idx → EReal) (M : S100000x128.Idx → EReal) (t : S2.Idx → EReal) : S4096x100000.Idx → EReal :=
  Host.divf (F := Ideal) (φ := .f32)
    (Host.dotGeneral (F := Ideal) (φ₁ := .f32) (φ₂ := .f32) dot_S4096x128_S128x100000_S4096x100000_1_0_0_1_n_n none x
      (transpose S128x100000 [1, 0] M transposes_S100000x128_S128x100000_1_0))
    (broadcastInDim S4096x100000 ![] bcast_S_S4096x100000
      (shapeCast S_ (extractStridedSlice S1 ![0] t slices_S2_S1_0) shapeCasts_S1_S_))

/-- The temperature as the reference reads it: the first of the two parameters. -/
theorem temp_apply (t : S2.Idx → EReal) (h : S2.Slices ![0] S1) (h' : S1.ShapeCasts S_) (j : S_.Idx) :
    shapeCast S_ (extractStridedSlice S1 ![0] t h) h' j = t (ValueIdx.ix1 (0 : Fin 2)) := by
  refine (shapeCast_apply _ h' j (ValueIdx.ix1 (0 : Fin 1)) ?_).trans ?_
  · have a := (S1.rowMajor (ValueIdx.ix1 (0 : Fin 1))).isLt
    have b := (S_.rowMajor j).isLt
    have a' : S1.numel = 1 := by decide
    have b' : S_.numel = 1 := by decide
    omega
  · refine extractStridedSlice_apply _ _ _ _ _ ?_
    intro a
    match a with
    | ⟨0, _⟩ => rfl

/-- The reference at every query and row: the inner product divided by the temperature. -/
theorem ref_apply (x : S4096x128.Idx → EReal) (M : S100000x128.Idx → EReal) (t : S2.Idx → EReal) (b : Fin 4096) (r : Fin 100000) :
    refOut x M t (ix2 b r) = Ideal.div (∑ k : Fin 128, x (ix2 b k) * M (ix2 r k)) (t (ValueIdx.ix1 (0 : Fin 2))) := by
  unfold refOut
  refine congrArg₂ Ideal.div ?_ ?_
  · refine (StackMember.dotGeneral_plain_apply (φ₁ := .f32) (φ₂ := .f32) none x _ b r).trans ?_
    exact Finset.sum_congr rfl fun k _ => congrArg (x (ix2 b k) * ·) (transpose_ix2_apply _ _ k r)
  · refine (broadcastInDim_apply _ _ _ _ (fun a => a.elim0) (fun a => a.elim0)).trans ?_
    exact temp_apply t _ _ _

end Cert.ReferenceIdeal.Hand

namespace Cert.Pre_temperature_nonzero.Hand

open Idealize.ShloMosaic

/-- The side conditions of the precondition's two operations. -/
theorem facts : Cert.Pre_temperature_nonzero.Facts := ⟨Cert.ReferenceIdeal.Gen.slices_S2_S1_0, Cert.ReferenceIdeal.Gen.shapeCasts_S1_S_⟩

/-- The precondition says that the first parameter is not zero. -/
theorem nonzero (x : FVec Ideal S4096x128 .f32) (y : IVec S4096 32) (M : FVec Ideal S100000x128 .f32) (t : FVec Ideal S2 .f32)
    (h : @fn facts Ideal _ x y M t = fun _ => 1#1) : (t (ValueIdx.ix1 (0 : Fin 2)) : EReal) ≠ 0 := by
  have e := congrFun h (fun a => a.elim0)
  change Ideal.cmp .une (shapeCast S_ (extractStridedSlice S1 ![0] t facts.slices_S2_S1_0) facts.shapeCasts_S1_S_ _)
    (Ideal.ofBits .f32 0x00000000#32) = 1#1 at e
  rw [Cert.ReferenceIdeal.Hand.temp_apply t facts.slices_S2_S1_0 facts.shapeCasts_S1_S_, Ideal.ofBits_zero_f32] at e
  intro h0
  rw [h0] at e
  exact absurd e (by simp [Ideal.cmp])

end Cert.Pre_temperature_nonzero.Hand

end
-- ==== Proof.lean ====
/-
  The claim assembled: the three frames, and the equation of the kernel with the reference.
-/
module

public import proofs.«01_k».proof.Defs
public import proofs.«01_k».proof.Proof.Same
public import proofs.«01_k».proof.Proof.Products
public import proofs.«01_k».proof.Proof.Quotient
public import Idealize.ShloMosaic.Lib.Quiescent

@[expose] public section

set_option maxRecDepth 16384

noncomputable section

namespace Cert.Proof

open Idealize.ShloMosaic Idealize.ShloMosaic.TcCoe Idealize.SL.Sem
open Idealize.ShloMosaic.ValueIdx (transpose_ix2_apply)

/-- Dividing by a number other than zero is multiplying by one over it. -/
theorem mul_inverse (s p : EReal) (hp : p ≠ 0) : s * Ideal.div 1 p = Ideal.div s p := by
  unfold Ideal.div
  rw [if_neg hp, if_neg hp, one_mul]

/-- The kernel's result, transposed, is the reference's, whenever the temperature is not zero. -/
theorem result_eq (x : FVec Ideal ⟨2, ![4096, 128]⟩ .f32) (M : FVec Ideal ⟨2, ![100000, 128]⟩ .f32) (t : FVec Ideal ⟨1, ![2]⟩ .f32)
    (ht : (t (ValueIdx.ix1 (0 : Fin 2)) : EReal) ≠ 0) :
    transpose Cert.KernelIdeal.S4096x100000 [1, 0] (Cert.KernelIdeal.Hand.outG (F := Ideal) (t (ValueIdx.ix1 (0 : Fin 2))) x M)
        Cert.KernelIdeal.Gen.transposes_S100000x4096_S4096x100000_1_0
      = Cert.ReferenceIdeal.Hand.refOut x M t := by
  funext j
  obtain ⟨b, r, rfl⟩ : ∃ (b : Fin 4096) (r : Fin 100000), j = ValueIdx.ix2 b r := ⟨j 0, j 1, ValueIdx.eq_ix2 j⟩
  refine (transpose_ix2_apply _ _ b r).trans ?_
  rw [Cert.KernelIdeal.Hand.out_apply, mul_inverse _ _ ht, Cert.ReferenceIdeal.Hand.ref_apply]
  rfl

/-- The reference runs, leaves its arguments as launched and every semaphore at rest. -/
theorem ref_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The kernel and the reference end with the same result wherever the temperature is not zero. -/
theorem algebraic : Cert.algebraic_KernelIdeal_ReferenceIdeal_pre_temperature_nonzero (hKernelIdeal := Cert.KernelIdeal.Gen.facts)
    (hReferenceIdeal := Cert.ReferenceIdeal.Gen.facts) (hPre_temperature_nonzero := Cert.Pre_temperature_nonzero.Hand.facts) := by
  intro m g m' g' hpre hargs
  refine ⟨fun c => Cert.KernelIdeal.Hand.hostOut m c, (θ_run _ _ _).mono (fun r h => h.1) (Cert.KernelIdeal.Hand.run_ends m g),
    (θ_run _ _ _).mono (fun r h c => ⟨(h c).1.trans ?_, (h c).2⟩) (Cert.ReferenceIdeal.Value.run m' g')⟩
  obtain ⟨h0, _, h2, h3⟩ := hargs c
  rw [h0, h2, h3]
  exact (result_eq _ _ _ (Cert.Pre_temperature_nonzero.Hand.nonzero _ _ _ _ (hpre c))).symm

/-- The certificate's claim: the three frames, `preserves`, and the equation. -/
theorem claim : Cert.Claim :=
  ⟨Cert.Kernel.Gen.facts, Cert.KernelIdeal.Gen.facts, Cert.ReferenceIdeal.Gen.facts, Cert.Pre_temperature_nonzero.Hand.facts,
    fun m g _ => Cert.Kernel.Hand.frame m g,
    fun m g _ => Cert.KernelIdeal.Hand.frame m g,
    fun m g _ => Cert.KernelIdeal.Hand.frame m g,
    ref_frame,
    fun m g _ => ref_frame m g trivial,
    trivial,
    algebraic⟩

end Cert.Proof

end
